-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "exp2_scale" .f32 0x3FE6D4CA#32 ((((Real.log 2) * (13421773 / 16777216))⁻¹ : ℝ) : EReal)

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S4x1024x49152 : Shape := ⟨3, ![4, 1024, 49152]⟩
abbrev S_ : Shape := ⟨0, ![]⟩
abbrev S4x1024 : Shape := ⟨2, ![4, 1024]⟩

class Facts : Prop where
  reducesTo_S4x1024x49152_S4x1024_d2 : S4x1024x49152.ReducesTo [2] S4x1024
  h_S_ : 0 < S_.numel
  bcast_S_S4x1024 : S_.BroadcastsInDim S4x1024 (![] : Fin 0 → Fin S4x1024.rank)

variable [Facts]

def fn {F : FTy → Type} [FloatOps F] (main_arg0 : FVec F S4x1024x49152 .bf16) : IVec S4x1024 1 :=
  let main_cst : FVec F S_ .bf16 := constant S_ .bf16 0xFF80#16
  let main_v0 : FVec F S4x1024 .bf16 := (fun x v => Host.reduce FloatOps.maximumf x v reducesTo_S4x1024x49152_S4x1024_d2 h_S_) main_arg0 main_cst
  let main_v1 : FVec F S4x1024 .bf16 := Host.absf main_v0
  let main_cst_0 : FVec F S_ .bf16 := constant S_ .bf16 0x7F80#16
  let main_v2 : FVec F S4x1024 .bf16 := broadcastInDim S4x1024 ![] bcast_S_S4x1024 main_cst_0
  let main_v3 : IVec S4x1024 1 := cmpf .olt main_v1 main_v2
  main_v3
-- ==== Kernel.lean ====
abbrev S4x1024x49152 : Shape := ⟨3, ![4, 1024, 49152]⟩
abbrev S4096x49152 : Shape := ⟨2, ![4096, 49152]⟩
abbrev S128x1x32 : Shape := ⟨3, ![128, 1, 32]⟩
abbrev S32x49152 : Shape := ⟨2, ![32, 49152]⟩
abbrev S1x1x32 : Shape := ⟨3, ![1, 1, 32]⟩
abbrev S32x512 : Shape := ⟨2, ![32, 512]⟩
abbrev S32x128 : Shape := ⟨2, ![32, 128]⟩
abbrev S32 : Shape := ⟨1, ![32]⟩
abbrev S32x1 : Shape := ⟨2, ![32, 1]⟩
abbrev S1x32 : Shape := ⟨2, ![1, 32]⟩

abbrev nBuf : Space → Nat
  | .hbm => 5
  | .vmem => 9
  | .smem => 0
  | _ => 0

abbrev bufTy : (tb : Table) → Fin (tcTables nBuf tb) → BufTy
  | .hbm, ⟨0, _⟩ => ⟨S4x1024x49152, .bf16⟩
  | .hbm, ⟨1, _⟩ => ⟨S4096x49152, .bf16⟩
  | .hbm, ⟨2, _⟩ => ⟨S128x1x32, .f32⟩
  | .hbm, ⟨3, _⟩ => ⟨S4096x49152, .fp8e4m3⟩
  | .hbm, ⟨4, _⟩ => ⟨S128x1x32, .f32⟩
  | .local _ .vmem, ⟨0, _⟩ => ⟨S32x49152, .bf16⟩
  | .local _ .vmem, ⟨1, _⟩ => ⟨S32x49152, .bf16⟩
  | .local _ .vmem, ⟨2, _⟩ => ⟨S1x1x32, .f32⟩
  | .local _ .vmem, ⟨3, _⟩ => ⟨S1x1x32, .f32⟩
  | .local _ .vmem, ⟨4, _⟩ => ⟨S32x49152, .fp8e4m3⟩
  | .local _ .vmem, ⟨5, _⟩ => ⟨S32x49152, .fp8e4m3⟩
  | .local _ .vmem, ⟨6, _⟩ => ⟨S1x1x32, .f32⟩
  | .local _ .vmem, ⟨7, _⟩ => ⟨S1x1x32, .f32⟩
  | .local _ .vmem, ⟨8, _⟩ => ⟨S32x49152, .f32⟩
  | _, _ => ⟨S4x1024x49152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

@[reducible] def k0_t1_loop : Scf.Loop 32 :=
  let c1_i32 : BitVec 32 := 1#32
  let c95_i32 : BitVec 32 := 95#32
  let v9 : BitVec 32 := Scalar.addi c1_i32 c95_i32
  let c1_i32_1 : BitVec 32 := 1#32
  ⟨c1_i32, v9, c1_i32_1⟩
def k0_mult1 (k0_t1 : Fin k0_t1_loop.trips) : BitVec 32 :=
  let c1_i32 : BitVec 32 := 1#32
  let c1_i32_1 : BitVec 32 := 1#32
  let arg6 : BitVec 32 := Scf.iv c1_i32 c1_i32_1 k0_t1
  let c512_i32 : BitVec 32 := 512#32
  let v105 : BitVec 32 := Scalar.muli arg6 c512_i32
  v105
def k0_off1 (k0_t1 : Fin k0_t1_loop.trips) : Fin 2 → Nat :=
  let c0_31 : Index := 0#32
  let c1_i32 : BitVec 32 := 1#32
  let c1_i32_1 : BitVec 32 := 1#32
  let arg6 : BitVec 32 := Scf.iv c1_i32 c1_i32_1 k0_t1
  let c512_i32 : BitVec 32 := 512#32
  let v105 : BitVec 32 := Scalar.muli arg6 c512_i32
  let v106 : BitVec 32 := v105
  let v107 : Index := Scalar.indexCast v106
  ![0, v107.toNat]
@[reducible] def k0_t2_loop : Scf.Loop 32 :=
  let c0_i32 : BitVec 32 := 0#32
  let c96_i32 : BitVec 32 := 96#32
  let v17 : BitVec 32 := Scalar.addi c0_i32 c96_i32
  let c1_i32_4 : BitVec 32 := 1#32
  ⟨c0_i32, v17, c1_i32_4⟩
def k0_mult2 (k0_t2 : Fin k0_t2_loop.trips) : BitVec 32 :=
  let c0_i32 : BitVec 32 := 0#32
  let c1_i32_4 : BitVec 32 := 1#32
  let arg6 : BitVec 32 := Scf.iv c0_i32 c1_i32_4 k0_t2
  let c512_i32 : BitVec 32 := 512#32
  let v105 : BitVec 32 := Scalar.muli arg6 c512_i32
  v105
def k0_off2 (k0_t2 : Fin k0_t2_loop.trips) (c0_i32_31 : BitVec 32) : Fin 2 → Nat :=
  let c0_32 : Index := 0#32
  let c0_i32 : BitVec 32 := 0#32
  let c1_i32_4 : BitVec 32 := 1#32
  let arg6 : BitVec 32 := Scf.iv c0_i32 c1_i32_4 k0_t2
  let c512_i32 : BitVec 32 := 512#32
  let v105 : BitVec 32 := Scalar.muli arg6 c512_i32
  let v106 : BitVec 32 := v105
  let v107 : BitVec 32 := Scalar.addi v106 c0_i32_31
  let v108 : Index := Scalar.indexCast v107
  ![0, v108.toNat]
@[reducible] def k0_t3_loop : Scf.Loop 32 :=
  let c0_i32_21 : BitVec 32 := 0#32
  let c96_i32_22 : BitVec 32 := 96#32
  let v95 : BitVec 32 := Scalar.addi c0_i32_21 c96_i32_22
  let c1_i32_23 : BitVec 32 := 1#32
  ⟨c0_i32_21, v95, c1_i32_23⟩
def k0_mult3 (k0_t3 : Fin k0_t3_loop.trips) : BitVec 32 :=
  let c0_i32_21 : BitVec 32 := 0#32
  let c1_i32_23 : BitVec 32 := 1#32
  let arg6 : BitVec 32 := Scf.iv c0_i32_21 c1_i32_23 k0_t3
  let c512_i32 : BitVec 32 := 512#32
  let v105 : BitVec 32 := Scalar.muli arg6 c512_i32
  v105
def k0_off3 (k0_t3 : Fin k0_t3_loop.trips) (c0_i32_31 : BitVec 32) : Fin 2 → Nat :=
  let c0_32 : Index := 0#32
  let c0_i32_21 : BitVec 32 := 0#32
  let c1_i32_23 : BitVec 32 := 1#32
  let arg6 : BitVec 32 := Scf.iv c0_i32_21 c1_i32_23 k0_t3
  let c512_i32 : BitVec 32 := 512#32
  let v105 : BitVec 32 := Scalar.muli arg6 c512_i32
  let v106 : BitVec 32 := v105
  let v107 : BitVec 32 := Scalar.addi v106 c0_i32_31
  let v108 : Index := Scalar.indexCast v107
  ![0, v108.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x49152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x49152 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "exp2_scale" => some ((((Real.log 2) * (13421773 / 16777216))⁻¹ : ℝ) : EReal)
  | _ => none
-- ==== ReferenceIdeal.lean ====
abbrev S4x1024x49152 : Shape := ⟨3, ![4, 1024, 49152]⟩
abbrev S128x1x32 : Shape := ⟨3, ![128, 1, 32]⟩
abbrev S4096x49152 : Shape := ⟨2, ![4096, 49152]⟩
abbrev S4x1024 : Shape := ⟨2, ![4, 1024]⟩
abbrev S4x1024x1 : Shape := ⟨3, ![4, 1024, 1]⟩

abbrev nBuf : Space → Nat
  | .hbm => 4
  | .vmem => 4
  | .smem => 0
  | _ => 0

abbrev bufTy : (tb : Table) → Fin (tcTables nBuf tb) → BufTy
  | .hbm, ⟨0, _⟩ => ⟨S4x1024x49152, .bf16⟩
  | .hbm, ⟨1, _⟩ => ⟨S128x1x32, .f32⟩
  | .hbm, ⟨2, _⟩ => ⟨S4096x49152, .fp8e4m3⟩
  | .hbm, ⟨3, _⟩ => ⟨S128x1x32, .f32⟩
  | .local _ .vmem, ⟨0, _⟩ => ⟨S4x1024x49152, .bf16⟩
  | .local _ .vmem, ⟨1, _⟩ => ⟨S128x1x32, .f32⟩
  | .local _ .vmem, ⟨2, _⟩ => ⟨S4096x49152, .fp8e4m3⟩
  | .local _ .vmem, ⟨3, _⟩ => ⟨S128x1x32, .f32⟩
  | _, _ => ⟨S4x1024x49152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x1024x49152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x49152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelFrame.lean ====
/- The frame of the program, with what every result block holds after the body named. The body's run is `sl_exec` over
   the generated skeleton and the three generated loop invariants; the scratch that the second loop fills and the third
   loop reads is restated first by what the second loop left in it (`scratch_eq`), so that nothing the run names depends on
   what the scratch held when the body was entered. -/
module

public import proofs.«01_k».proof.Proof.Gen.Kernel.Frame
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 1, through which its contents are stated (`View.read_writes_of_cover`: the
    choice does not matter). -/
abbrev VO0_1 : View sig .tc .vmem S1x1x32 .f32 := (Memref.whole cc0_stg1_0 : Memref sig .tc .vmem S1x1x32 .f32).view
/-- One staging buffer of output window 2, through which its contents are stated (`View.read_writes_of_cover`: the
    choice does not matter). -/
abbrev VO0_2 : View sig .tc .vmem S32x49152 .fp8e4m3 := (Memref.whole cc0_stg2_0 : Memref sig .tc .vmem S32x49152 .fp8e4m3).view
/-- One staging buffer of output window 3, through which its contents are stated (`View.read_writes_of_cover`: the
    choice does not matter). -/
abbrev VO0_3 : View sig .tc .vmem S1x1x32 .f32 := (Memref.whole cc0_stg3_0 : Memref sig .tc .vmem S1x1x32 .f32).view
/-- Each window's current staging memref at point `t`, spelled as the pipeline passes it (`bodyAt0`), and its wholeness. -/
abbrev ms0_0 (t : Fin cfg0.N) : Memref sig .tc .vmem S32x49152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x49152 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x32 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S32x49152 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Every column of the scratch is stored by the exponential loop: its 384 pieces of 128 columns tile the buffer, whatever
    the loop carries. -/
theorem scratch_cover (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (v10 : FVec F S32x128 .bf16) (X : BufTy.Contents (Elt F) arg1.view.ty) (y : S32x49152.Idx) :
    ∃ pc ∈ (st_k0_t2 (F := F) Variants.none c none i arg1 harg1 arg2 harg2 arg3 harg3 arg4 harg4 arg5 harg5 v10 X k0_pay18 (Scf.trips k0_t2_loop.lb k0_t2_loop.ub k0_t2_loop.st)).2, y ∈ pc.1.set :=
  View.cover_of_tiledL (st_k0_t2 (F := F) Variants.none c none i arg1 harg1 arg2 harg2 arg3 harg3 arg4 harg4 arg5 harg5 v10 X k0_pay18 (Scf.trips k0_t2_loop.lb k0_t2_loop.ub k0_t2_loop.st)).2 S32x128.size (by sl_kernel_rfl) y

/-- What the scratch holds after the exponential loop, independent of what it held before. -/
theorem scratch_eq (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (v10 : FVec F S32x128 .bf16) (X : BufTy.Contents (Elt F) arg1.view.ty) (f : BufTy.Contents (Elt F) arg5.view.ty) :
    arg5.view.writes (Elt F) f (st_k0_t2 (F := F) Variants.none c none i arg1 harg1 arg2 harg2 arg3 harg3 arg4 harg4 arg5 harg5 v10 X k0_pay18 (Scf.trips k0_t2_loop.lb k0_t2_loop.ub k0_t2_loop.st)).2
      = harg5.unread (View.canon (st_k0_t2 (F := F) Variants.none c none i arg1 harg1 arg2 harg2 arg3 harg3 arg4 harg4 arg5 harg5 v10 X k0_pay18 (Scf.trips k0_t2_loop.lb k0_t2_loop.ub k0_t2_loop.st)).2) :=
  harg5.eq_unread (View.read_writes_eq_canon _ _ _ (scratch_cover c i arg1 harg1 arg2 harg2 arg3 harg3 arg4 harg4 arg5 harg5 v10 X))

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) :
    Σ' (L1 : List (View.Piece (Elt F) S1x1x32 .f32)), Σ' (L2 : List (View.Piece (Elt F) S32x49152 .fp8e4m3)), { L3 : List (View.Piece (Elt F) S1x1x32 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d)) -∗ K ⟨⟩))
          ⊢ wp frame (wpE (defs₀ (F := F)) Variants.none c none) E (cc0__softmax_kernel i arg1 harg1 arg2 harg2 arg3 harg3 arg4 harg4 arg5 harg5) K } := by
  refine ⟨?_, ?_, ?_, fun E K => ?run⟩
  case run =>
    simp only [cc0__softmax_kernel_eq_skeleton]; unfold cc0__softmax_kernel_skel
    simp only [k0_part3_eq_skeleton, k0_part4_eq_skeleton]
    unfold owns
    iintro ⟨⟨%f0, %hf0, H0⟩, ⟨%d1, %f1, -, H1⟩, ⟨%d2, %f2, -, H2⟩, ⟨%d3, %f3, -, H3⟩, ⟨%ds0, %fs0, -, HS0⟩, Hk⟩
    obtain rfl := harg1.eq_unread hf0
    sl_exec
    sl_step
    iapply Hk
    rw [scratch_eq]
    isplitl [H0]
    · iexists _; isplitr; · ipureintro; exact harg1.read_unread _
      iexact H0
    isplitl [H1]; · iexists _; iexact H1
    isplitl [H2]; · iexists _; iexact H2
    isplitl [H3]; · iexists _; iexact H3
    iexists _, _; isplitr; swap; · iexact HS0
    ipureintro; rfl

/-- The run's pieces for output 1 tile its block (1 store of `S1x1x32`, checked by the kernel's evaluation: Lib/Ring.lean `Piece.tiledL`, linear in the pieces, through a loop's `@[irreducible]` trip theorem too), so they cover it. -/
theorem cover0_A_1 (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) (y : S1x1x32.Idx) :
    ∃ pc ∈ (kernelRun0_A c i arg1 harg1 arg2 harg2 arg3 harg3 arg4 harg4 arg5 harg5 x0).1, y ∈ pc.1.set :=
  View.cover_of_tiledL (kernelRun0_A c i arg1 harg1 arg2 harg2 arg3 harg3 arg4 harg4 arg5 harg5 x0).1 S1x1x32.size (by sl_kernel_rfl) y

/-- What the run leaves in output 1's staging buffer: its pieces read back over junk. -/
def out0_A_1 (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) : Vec F S1x1x32 .f32 :=
  VO0_1.read (Elt F) (VO0_1.writes (Elt F) VO0_1.junk (kernelRun0_A c i arg1 harg1 arg2 harg2 arg3 harg3 arg4 harg4 arg5 harg5 x0).1)

/-- The run's pieces for output 2 tile its block (384 stores of `S32x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) (y : S32x49152.Idx) :
    ∃ pc ∈ (kernelRun0_A c i arg1 harg1 arg2 harg2 arg3 harg3 arg4 harg4 arg5 harg5 x0).2.1, y ∈ pc.1.set :=
  View.cover_of_tiledL (kernelRun0_A c i arg1 harg1 arg2 harg2 arg3 harg3 arg4 harg4 arg5 harg5 x0).2.1 S32x128.size (by sl_kernel_rfl) y

/-- What the run leaves in output 2's staging buffer: its pieces read back over junk. -/
def out0_A_2 (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) : Vec F S32x49152 .fp8e4m3 :=
  VO0_2.read (Elt F) (VO0_2.writes (Elt F) VO0_2.junk (kernelRun0_A c i arg1 harg1 arg2 harg2 arg3 harg3 arg4 harg4 arg5 harg5 x0).2.1)

/-- The run's pieces for output 3 tile its block (1 store of `S1x1x32`, checked by the kernel's evaluation: Lib/Ring.lean `Piece.tiledL`, linear in the pieces, through a loop's `@[irreducible]` trip theorem too), so they cover it. -/
theorem cover0_A_3 (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) (y : S1x1x32.Idx) :
    ∃ pc ∈ (kernelRun0_A c i arg1 harg1 arg2 harg2 arg3 harg3 arg4 harg4 arg5 harg5 x0).2.2.1, y ∈ pc.1.set :=
  View.cover_of_tiledL (kernelRun0_A c i arg1 harg1 arg2 harg2 arg3 harg3 arg4 harg4 arg5 harg5 x0).2.2.1 S1x1x32.size (by sl_kernel_rfl) y

/-- What the run leaves in output 3's staging buffer: its pieces read back over junk. -/
def out0_A_3 (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) : Vec F S1x1x32 .f32 :=
  VO0_3.read (Elt F) (VO0_3.writes (Elt F) VO0_3.junk (kernelRun0_A c i arg1 harg1 arg2 harg2 arg3 harg3 arg4 harg4 arg5 harg5 x0).2.2.1)

/-! ## What the outputs hold after each point -/

/-- What the outputs' staging buffers hold after the body at point `t` (as a tuple, in window order): the run's contents at
    the point's memrefs and input blocks. -/
def outsAt0 (c : Dev nD) (t : Fin cfg0.N) : Vec F S1x1x32 .f32 × Vec F S32x49152 .fp8e4m3 × Vec F S1x1x32 .f32 :=
  (out0_A_1 c (grid0.coords t) (ms0_0 t) (hs0_0 t) (ms0_1 t) (hs0_1 t) (ms0_2 t) (hs0_2 t) (ms0_3 t) (hs0_3 t) scM0_0 (Memref.isWhole_whole _) (iblk m c 0 t), out0_A_2 c (grid0.coords t) (ms0_0 t) (hs0_0 t) (ms0_1 t) (hs0_1 t) (ms0_2 t) (hs0_2 t) (ms0_3 t) (hs0_3 t) scM0_0 (Memref.isWhole_whole _) (iblk m c 0 t), out0_A_3 c (grid0.coords t) (ms0_0 t) (hs0_0 t) (ms0_1 t) (hs0_1 t) (ms0_2 t) (hs0_2 t) (ms0_3 t) (hs0_3 t) scM0_0 (Memref.isWhole_whole _) (iblk m c 0 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t).1
    | ⟨2, _⟩ => (outsAt0 m c t).2.1
    | ⟨3, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t).1 := by dsimp only [dats]
theorem after0_2 (c : Dev nD) (t : Fin cfg0.N) : (dats m 0 c).after 2 t = (outsAt0 m c t).2.1 := by dsimp only [dats]
theorem after0_3 (c : Dev nD) (t : Fin cfg0.N) : (dats m 0 c).after 3 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_1 out0_A_2 out0_A_3; (try dsimp only)
  iintro ⟨⟨HS0, Hg⟩, Ho, ⟨%d0, H0⟩, ⟨%d1, H1⟩, ⟨%d2, H2⟩, ⟨%d3, H3⟩⟩
  iapply ((kernelRun0_A c (grid0.coords t) _ _ _ _ _ _ _ _ _ _ (iblk m c 0 t)).2.2.2 Set.univ _)
  isplitl [H0]; · iexact H0
  isplitl [H1]; · iexists _; iexact H1
  isplitl [H2]; · iexists _; iexact H2
  isplitl [H3]; · iexists _; iexact H3
  isplitl [HS0]; · iexact HS0
  iintro ⟨H0, ⟨%e1, H1⟩, ⟨%e2, H2⟩, ⟨%e3, H3⟩, HS0⟩
  isplitl [HS0 Hg]
  · isplitl [HS0]
    · iexact HS0
    iexact Hg
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _ _ _)
  isplitl [H2]
  · unfold owns; iexists _; isplitr
    swap; · iexact H2
    ipureintro; exact View.read_writes_of_cover _ _ _ _ _ (cover0_A_2 c _ _ _ _ _ _ _ _ _ _ _ _)
  unfold owns; iexists _; isplitr
  swap; · iexact H3
  ipureintro; exact View.read_writes_of_cover _ _ _ _ _ (cover0_A_3 c _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_Kernel`'s statement (Defs.lean) at any `F` — Proof.lean cites it. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Kernel.Body

end
-- ==== Proof.IdealFrame.lean ====
/- The frame of the program, with what every result block holds after the body named. The body's run is `sl_exec` over
   the generated skeleton and the three generated loop invariants; the scratch that the second loop fills and the third
   loop reads is restated first by what the second loop left in it (`scratch_eq`), so that nothing the run names depends on
   what the scratch held when the body was entered. -/
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of output window 1, through which its contents are stated (`View.read_writes_of_cover`: the
    choice does not matter). -/
abbrev VO0_1 : View sig .tc .vmem S1x1x32 .f32 := (Memref.whole cc0_stg1_0 : Memref sig .tc .vmem S1x1x32 .f32).view
/-- One staging buffer of output window 2, through which its contents are stated (`View.read_writes_of_cover`: the
    choice does not matter). -/
abbrev VO0_2 : View sig .tc .vmem S32x49152 .fp8e4m3 := (Memref.whole cc0_stg2_0 : Memref sig .tc .vmem S32x49152 .fp8e4m3).view
/-- One staging buffer of output window 3, through which its contents are stated (`View.read_writes_of_cover`: the
    choice does not matter). -/
abbrev VO0_3 : View sig .tc .vmem S1x1x32 .f32 := (Memref.whole cc0_stg3_0 : Memref sig .tc .vmem S1x1x32 .f32).view
/-- Each window's current staging memref at point `t`, spelled as the pipeline passes it (`bodyAt0`), and its wholeness. -/
abbrev ms0_0 (t : Fin cfg0.N) : Memref sig .tc .vmem S32x49152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x49152 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x32 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S32x49152 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Every column of the scratch is stored by the exponential loop: its 384 pieces of 128 columns tile the buffer, whatever
    the loop carries. -/
theorem scratch_cover (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (v10 : FVec F S32x128 .bf16) (X : BufTy.Contents (Elt F) arg1.view.ty) (y : S32x49152.Idx) :
    ∃ pc ∈ (st_k0_t2 (F := F) Variants.none c none i arg1 harg1 arg2 harg2 arg3 harg3 arg4 harg4 arg5 harg5 v10 X k0_pay18 (Scf.trips k0_t2_loop.lb k0_t2_loop.ub k0_t2_loop.st)).2, y ∈ pc.1.set :=
  View.cover_of_tiledL (st_k0_t2 (F := F) Variants.none c none i arg1 harg1 arg2 harg2 arg3 harg3 arg4 harg4 arg5 harg5 v10 X k0_pay18 (Scf.trips k0_t2_loop.lb k0_t2_loop.ub k0_t2_loop.st)).2 S32x128.size (by sl_kernel_rfl) y

/-- What the scratch holds after the exponential loop, independent of what it held before. -/
theorem scratch_eq (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (v10 : FVec F S32x128 .bf16) (X : BufTy.Contents (Elt F) arg1.view.ty) (f : BufTy.Contents (Elt F) arg5.view.ty) :
    arg5.view.writes (Elt F) f (st_k0_t2 (F := F) Variants.none c none i arg1 harg1 arg2 harg2 arg3 harg3 arg4 harg4 arg5 harg5 v10 X k0_pay18 (Scf.trips k0_t2_loop.lb k0_t2_loop.ub k0_t2_loop.st)).2
      = harg5.unread (View.canon (st_k0_t2 (F := F) Variants.none c none i arg1 harg1 arg2 harg2 arg3 harg3 arg4 harg4 arg5 harg5 v10 X k0_pay18 (Scf.trips k0_t2_loop.lb k0_t2_loop.ub k0_t2_loop.st)).2) :=
  harg5.eq_unread (View.read_writes_eq_canon _ _ _ (scratch_cover c i arg1 harg1 arg2 harg2 arg3 harg3 arg4 harg4 arg5 harg5 v10 X))

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) :
    Σ' (L1 : List (View.Piece (Elt F) S1x1x32 .f32)), Σ' (L2 : List (View.Piece (Elt F) S32x49152 .fp8e4m3)), { L3 : List (View.Piece (Elt F) S1x1x32 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d)) -∗ K ⟨⟩))
          ⊢ wp frame (wpE (defs₀ (F := F)) Variants.none c none) E (cc0__softmax_kernel i arg1 harg1 arg2 harg2 arg3 harg3 arg4 harg4 arg5 harg5) K } := by
  refine ⟨?_, ?_, ?_, fun E K => ?run⟩
  case run =>
    simp only [cc0__softmax_kernel_eq_skeleton]; unfold cc0__softmax_kernel_skel
    simp only [k0_part3_eq_skeleton, k0_part4_eq_skeleton]
    unfold owns
    iintro ⟨⟨%f0, %hf0, H0⟩, ⟨%d1, %f1, -, H1⟩, ⟨%d2, %f2, -, H2⟩, ⟨%d3, %f3, -, H3⟩, ⟨%ds0, %fs0, -, HS0⟩, Hk⟩
    obtain rfl := harg1.eq_unread hf0
    sl_exec
    sl_step
    iapply Hk
    rw [scratch_eq]
    isplitl [H0]
    · iexists _; isplitr; · ipureintro; exact harg1.read_unread _
      iexact H0
    isplitl [H1]; · iexists _; iexact H1
    isplitl [H2]; · iexists _; iexact H2
    isplitl [H3]; · iexists _; iexact H3
    iexists _, _; isplitr; swap; · iexact HS0
    ipureintro; rfl

/-- The run's pieces for output 1 tile its block (1 store of `S1x1x32`, checked by the kernel's evaluation: Lib/Ring.lean `Piece.tiledL`, linear in the pieces, through a loop's `@[irreducible]` trip theorem too), so they cover it. -/
theorem cover0_A_1 (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) (y : S1x1x32.Idx) :
    ∃ pc ∈ (kernelRun0_A c i arg1 harg1 arg2 harg2 arg3 harg3 arg4 harg4 arg5 harg5 x0).1, y ∈ pc.1.set :=
  View.cover_of_tiledL (kernelRun0_A c i arg1 harg1 arg2 harg2 arg3 harg3 arg4 harg4 arg5 harg5 x0).1 S1x1x32.size (by sl_kernel_rfl) y

/-- What the run leaves in output 1's staging buffer: its pieces read back over junk. -/
def out0_A_1 (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) : Vec F S1x1x32 .f32 :=
  VO0_1.read (Elt F) (VO0_1.writes (Elt F) VO0_1.junk (kernelRun0_A c i arg1 harg1 arg2 harg2 arg3 harg3 arg4 harg4 arg5 harg5 x0).1)

/-- The run's pieces for output 2 tile its block (384 stores of `S32x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) (y : S32x49152.Idx) :
    ∃ pc ∈ (kernelRun0_A c i arg1 harg1 arg2 harg2 arg3 harg3 arg4 harg4 arg5 harg5 x0).2.1, y ∈ pc.1.set :=
  View.cover_of_tiledL (kernelRun0_A c i arg1 harg1 arg2 harg2 arg3 harg3 arg4 harg4 arg5 harg5 x0).2.1 S32x128.size (by sl_kernel_rfl) y

/-- What the run leaves in output 2's staging buffer: its pieces read back over junk. -/
def out0_A_2 (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) : Vec F S32x49152 .fp8e4m3 :=
  VO0_2.read (Elt F) (VO0_2.writes (Elt F) VO0_2.junk (kernelRun0_A c i arg1 harg1 arg2 harg2 arg3 harg3 arg4 harg4 arg5 harg5 x0).2.1)

/-- The run's pieces for output 3 tile its block (1 store of `S1x1x32`, checked by the kernel's evaluation: Lib/Ring.lean `Piece.tiledL`, linear in the pieces, through a loop's `@[irreducible]` trip theorem too), so they cover it. -/
theorem cover0_A_3 (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) (y : S1x1x32.Idx) :
    ∃ pc ∈ (kernelRun0_A c i arg1 harg1 arg2 harg2 arg3 harg3 arg4 harg4 arg5 harg5 x0).2.2.1, y ∈ pc.1.set :=
  View.cover_of_tiledL (kernelRun0_A c i arg1 harg1 arg2 harg2 arg3 harg3 arg4 harg4 arg5 harg5 x0).2.2.1 S1x1x32.size (by sl_kernel_rfl) y

/-- What the run leaves in output 3's staging buffer: its pieces read back over junk. -/
def out0_A_3 (c : Dev nD) (i : grid0.Coords) (arg1 : Memref sig .tc .vmem S32x49152 .bf16) (harg1 : arg1.IsWhole) (arg2 : Memref sig .tc .vmem S1x1x32 .f32) (harg2 : arg2.IsWhole) (arg3 : Memref sig .tc .vmem S32x49152 .fp8e4m3) (harg3 : arg3.IsWhole) (arg4 : Memref sig .tc .vmem S1x1x32 .f32) (harg4 : arg4.IsWhole) (arg5 : Memref sig .tc .vmem S32x49152 .f32) (harg5 : arg5.IsWhole)
    (x0 : Vec F S32x49152 .bf16) : Vec F S1x1x32 .f32 :=
  VO0_3.read (Elt F) (VO0_3.writes (Elt F) VO0_3.junk (kernelRun0_A c i arg1 harg1 arg2 harg2 arg3 harg3 arg4 harg4 arg5 harg5 x0).2.2.1)

/-! ## What the outputs hold after each point -/

/-- What the outputs' staging buffers hold after the body at point `t` (as a tuple, in window order): the run's contents at
    the point's memrefs and input blocks. -/
def outsAt0 (c : Dev nD) (t : Fin cfg0.N) : Vec F S1x1x32 .f32 × Vec F S32x49152 .fp8e4m3 × Vec F S1x1x32 .f32 :=
  (out0_A_1 c (grid0.coords t) (ms0_0 t) (hs0_0 t) (ms0_1 t) (hs0_1 t) (ms0_2 t) (hs0_2 t) (ms0_3 t) (hs0_3 t) scM0_0 (Memref.isWhole_whole _) (iblk m c 0 t), out0_A_2 c (grid0.coords t) (ms0_0 t) (hs0_0 t) (ms0_1 t) (hs0_1 t) (ms0_2 t) (hs0_2 t) (ms0_3 t) (hs0_3 t) scM0_0 (Memref.isWhole_whole _) (iblk m c 0 t), out0_A_3 c (grid0.coords t) (ms0_0 t) (hs0_0 t) (ms0_1 t) (hs0_1 t) (ms0_2 t) (hs0_2 t) (ms0_3 t) (hs0_3 t) scM0_0 (Memref.isWhole_whole _) (iblk m c 0 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t).1
    | ⟨2, _⟩ => (outsAt0 m c t).2.1
    | ⟨3, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t).1 := by dsimp only [dats]
theorem after0_2 (c : Dev nD) (t : Fin cfg0.N) : (dats m 0 c).after 2 t = (outsAt0 m c t).2.1 := by dsimp only [dats]
theorem after0_3 (c : Dev nD) (t : Fin cfg0.N) : (dats m 0 c).after 3 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_1 out0_A_2 out0_A_3; (try dsimp only)
  iintro ⟨⟨HS0, Hg⟩, Ho, ⟨%d0, H0⟩, ⟨%d1, H1⟩, ⟨%d2, H2⟩, ⟨%d3, H3⟩⟩
  iapply ((kernelRun0_A c (grid0.coords t) _ _ _ _ _ _ _ _ _ _ (iblk m c 0 t)).2.2.2 Set.univ _)
  isplitl [H0]; · iexact H0
  isplitl [H1]; · iexists _; iexact H1
  isplitl [H2]; · iexists _; iexact H2
  isplitl [H3]; · iexists _; iexact H3
  isplitl [HS0]; · iexact HS0
  iintro ⟨H0, ⟨%e1, H1⟩, ⟨%e2, H2⟩, ⟨%e3, H3⟩, HS0⟩
  isplitl [HS0 Hg]
  · isplitl [HS0]
    · iexact HS0
    iexact Hg
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _ _ _)
  isplitl [H2]
  · unfold owns; iexists _; isplitr
    swap; · iexact H2
    ipureintro; exact View.read_writes_of_cover _ _ _ _ _ (cover0_A_2 c _ _ _ _ _ _ _ _ _ _ _ _)
  unfold owns; iexists _; isplitr
  swap; · iexact H3
  ipureintro; exact View.read_writes_of_cover _ _ _ _ _ (cover0_A_3 c _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_KernelIdeal`'s statement (Defs.lean) at any `F` — Proof.lean cites it. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Body

end
-- ==== Proof.RowMath.lean ====
/- The mathematics of one row of 49152 logits over the extended reals: the exponentials, their sum, the magnitude of which
   the scale is the next power of two, and the search for that power's exponent field. Nothing here speaks of a program. -/
module

public import Idealize.ShloMosaic.PureOps.Ideal
public import Idealize.ShloMosaic.PureOps.Ideal.Laws
public import Mathlib.Data.EReal.Operations
public import Mathlib.Order.CompleteLattice.Finset

@[expose] public section

noncomputable section

namespace Cert.RowMath

open Idealize.ShloMosaic
open scoped BigOperators

/-- The temperature, the float nearest 0.8. -/
def temp : ℝ := 13421773 / 16777216

theorem temp_pos : 0 < temp := by unfold temp; norm_num

theorem temp_bits : Ideal.ofBits .f32 0x3F4CCCCD#32 = (temp : EReal) := by
  simp [Ideal.ofBits, Ideal.ieee, temp, -EReal.coe_mul]; norm_num

/-- The factor of the exponent: the reciprocal of `log 2` times the temperature. -/
def slope : ℝ := (Real.log 2 * (13421773 / 16777216))⁻¹

theorem log_two_pos : 0 < Real.log 2 := Real.log_pos (by norm_num)

theorem slope_pos : 0 < slope := inv_pos.mpr (mul_pos log_two_pos (by norm_num))

/-- The reciprocal of the largest code, as a float. -/
def invMax : ℝ := 9586981 / 4294967296

theorem invMax_bits : Ideal.ofBits .f32 0x3B124925#32 = (invMax : EReal) := by
  simp [Ideal.ofBits, Ideal.ieee, invMax, -EReal.coe_mul]; norm_num

theorem negInf_bits : Ideal.ofBits .f32 0xFF800000#32 = ⊥ := by
  simp [Ideal.ofBits, Ideal.ieee]

theorem two_bits : Ideal.ofBits .f32 0x40000000#32 = ((2 : ℝ) : EReal) := by
  simp [Ideal.ofBits, Ideal.ieee, -EReal.coe_mul]; norm_num

variable {n : ℕ} (x : Fin n → EReal)

/-- A row's greatest logit. -/
def rmax : EReal := Finset.univ.sup x

/-- The exponential of a row's logit, relative to the row's greatest: two to the scaled difference. -/
def ex (j : Fin n) : EReal := Ideal.exp2 ((x j - rmax x) * (slope : EReal))

/-- The sum of a row's exponentials. -/
def tot : EReal := ∑ j, ex x j

/-- The magnitude whose next power of two is the row's scale. -/
def mag : EReal := Ideal.div 1 (tot x) * Ideal.ofBits .f32 0x3B124925#32

theorem fold_max_eq_sup : Finset.univ.fold max ⊥ x = Finset.univ.sup x := rfl

theorem div_temp (a : EReal) : Ideal.div a (Ideal.ofBits .f32 0x3F4CCCCD#32) = a * ((temp⁻¹ : ℝ) : EReal) := by
  rw [temp_bits, Ideal.div, if_neg (by simpa using temp_pos.ne'), EReal.coe_inv]

theorem mul_sup_pos (k : ℝ) (hk : 0 < k) (s : Finset (Fin n)) :
    s.sup (fun j => x j * (k : EReal)) = s.sup x * (k : EReal) := by
  classical
  induction s using Finset.induction_on with
  | empty => simp [EReal.bot_mul_coe_of_pos hk]
  | insert a s ha ih =>
    rw [Finset.sup_insert, Finset.sup_insert, ih]
    have hm : Monotone fun a : EReal => a * (k : EReal) := fun a b h => mul_le_mul_of_nonneg_right h (by exact_mod_cast hk.le)
    exact (hm.map_sup _ _).symm

/-- Two to the scaled difference is the exponential of the difference of the quotients by the temperature. -/
theorem ex_real (a m : ℝ) : Real.rpow 2 ((a - m) * slope) = Real.exp (a * temp⁻¹ - m * temp⁻¹) := by
  show (2 : ℝ) ^ ((a - m) * slope) = _
  rw [Real.rpow_def_of_pos (by norm_num)]
  congr 1
  have := log_two_pos.ne'
  unfold slope temp
  field_simp

variable (hx : ∃ M : ℝ, rmax x = M)
include hx

/-- The reference's exponential of a logit is `ex`. -/
theorem ref_ex (j : Fin n) :
    Ideal.exp (Ideal.div (x j) (Ideal.ofBits .f32 0x3F4CCCCD#32) -
      Finset.univ.fold max (Ideal.ofBits .f32 0xFF800000#32) (fun j => Ideal.div (x j) (Ideal.ofBits .f32 0x3F4CCCCD#32)))
      = ex x j := by
  obtain ⟨M, hM⟩ := hx
  simp only [div_temp, negInf_bits]
  rw [fold_max_eq_sup, mul_sup_pos x _ (inv_pos.mpr temp_pos)]
  change Ideal.exp (_ - rmax x * _) = _
  unfold ex
  rw [hM]
  have hle : x j ≤ M := hM ▸ Finset.le_sup (f := x) (Finset.mem_univ j)
  induction h : x j using EReal.rec with
  | bot =>
    rw [EReal.bot_mul_coe_of_pos (inv_pos.mpr temp_pos), EReal.bot_sub, EReal.bot_sub, EReal.bot_mul_coe_of_pos slope_pos]
    rfl
  | top => rw [h] at hle; simp at hle
  | coe a =>
    rw [← EReal.coe_mul, ← EReal.coe_mul, ← EReal.coe_sub, ← EReal.coe_sub, ← EReal.coe_mul]
    exact congrArg (fun r : ℝ => (r : EReal)) (ex_real a M).symm

/-- Every exponential is a real between 0 and 1. -/
theorem ex_bounds (j : Fin n) : ∃ r : ℝ, ex x j = r ∧ 0 ≤ r ∧ r ≤ 1 := by
  obtain ⟨M, hM⟩ := hx
  unfold ex
  rw [hM]
  have hle : x j ≤ M := hM ▸ Finset.le_sup (f := x) (Finset.mem_univ j)
  induction h : x j using EReal.rec with
  | bot =>
    rw [EReal.bot_sub, EReal.bot_mul_coe_of_pos slope_pos]
    exact ⟨0, rfl, le_rfl, zero_le_one⟩
  | top => rw [h] at hle; simp at hle
  | coe a =>
    rw [← EReal.coe_sub, ← EReal.coe_mul]
    rw [h] at hle
    have hle' : a ≤ M := by exact_mod_cast hle
    refine ⟨Real.rpow 2 ((a - M) * slope), rfl, Real.rpow_nonneg (by norm_num) _, ?_⟩
    exact Real.rpow_le_one_of_one_le_of_nonpos (by norm_num)
      (mul_nonpos_of_nonpos_of_nonneg (by linarith) slope_pos.le)

/-- The exponential of the greatest logit is 1. -/
theorem ex_max : ∃ j, ex x j = 1 := by
  obtain ⟨M, hM⟩ := hx
  have hne : (Finset.univ : Finset (Fin n)).Nonempty := by
    rw [Finset.nonempty_iff_ne_empty]
    intro h
    rw [rmax, h, Finset.sup_empty] at hM
    exact absurd hM.symm (EReal.coe_ne_bot M)
  obtain ⟨j, -, hj⟩ := Finset.exists_mem_eq_sup _ hne x
  refine ⟨j, ?_⟩
  unfold ex
  rw [← hj]
  change Ideal.exp2 ((rmax x - rmax x) * _) = _
  rw [hM, ← EReal.coe_sub, ← EReal.coe_mul, sub_self, zero_mul]
  exact congrArg (fun r : ℝ => (r : EReal)) (Real.rpow_zero 2)

/-- The sum of the exponentials is a real between 1 and the row's length. -/
theorem tot_bounds : ∃ r : ℝ, tot x = r ∧ 1 ≤ r ∧ r ≤ n := by
  choose f hf h0 h1 using ex_bounds x hx
  obtain ⟨j, hj⟩ := ex_max x hx
  refine ⟨∑ j, f j, ?_, ?_, ?_⟩
  · unfold tot
    simp only [hf]
    exact (map_sum (⟨⟨fun r : ℝ => (r : EReal), EReal.coe_zero⟩, EReal.coe_add⟩ : ℝ →+ EReal) f Finset.univ).symm
  · have : f j = 1 := by have := hf j; rw [hj] at this; exact_mod_cast this.symm
    rw [← this]
    exact Finset.single_le_sum (f := f) (fun i _ => h0 i) (Finset.mem_univ j)
  · calc ∑ j, f j ≤ ∑ _j : Fin n, (1 : ℝ) := Finset.sum_le_sum fun i _ => h1 i
      _ = n := by simp

/-- The magnitude is a real between `2^-26` and 1. -/
theorem mag_bounds (hn : n ≤ 65536) : ∃ v : ℝ, mag x = v ∧ (2 : ℝ) ^ (-26 : ℤ) ≤ v ∧ v < 1 := by
  obtain ⟨r, hr, h1, h2⟩ := tot_bounds x hx
  have hr0 : 0 < r := by linarith
  refine ⟨r⁻¹ * invMax, ?_, ?_, ?_⟩
  · rw [mag, hr, Ideal.div, if_neg (by exact_mod_cast hr0.ne'), one_mul, invMax_bits, ← EReal.coe_inv, ← EReal.coe_mul]
  · have hn' : r ≤ 65536 := h2.trans (by exact_mod_cast hn)
    have : (65536 : ℝ)⁻¹ ≤ r⁻¹ := inv_anti₀ hr0 hn'
    have h3 : (65536 : ℝ)⁻¹ * invMax ≤ r⁻¹ * invMax := mul_le_mul_of_nonneg_right this (by unfold invMax; norm_num)
    refine le_trans ?_ h3
    unfold invMax; norm_num
  · have : r⁻¹ ≤ 1 := inv_le_one_of_one_le₀ h1
    have h3 : r⁻¹ * invMax ≤ 1 * invMax := mul_le_mul_of_nonneg_right this (by unfold invMax; norm_num)
    refine lt_of_le_of_lt h3 ?_
    unfold invMax; norm_num

omit hx

/-! ### The exponent field -/

/-- A word below 256 shifted left by 23 has that word for its exponent field, no fraction and no sign. -/
theorem shifted_fields : ∀ t : Fin 256,
    ((BitVec.ofNat 32 t.1 <<< 23#32).extractLsb' 23 8).toNat = t.1 ∧
    ((BitVec.ofNat 32 t.1 <<< 23#32).extractLsb' 0 23).toNat = 0 ∧
    ((BitVec.ofNat 32 t.1 <<< 23#32).extractLsb' 31 1 == 1#1) = false := by
  decide +kernel

theorem shli_23 (k : BitVec 32) : IntOp.shli .vector k 23#32 = k <<< 23#32 := by
  simp [IntOp.shli]

/-- The float of exponent field `t` and no fraction is two to the power `t - 127`. -/
theorem power_bits (t : ℕ) (h1 : 1 ≤ t) (h2 : t ≤ 254) :
    Ideal.ofBits .f32 (IntOp.shli .vector (BitVec.ofNat 32 t) 23#32) = (((2 : ℝ) ^ ((t : ℤ) - 127) : ℝ) : EReal) := by
  obtain ⟨he, hf, hn⟩ := shifted_fields ⟨t, by omega⟩
  rw [shli_23]
  simp only at he hf hn
  simp only [Ideal.ofBits, Ideal.ieee, he, hf, hn]
  rw [if_neg (by omega), if_neg (by omega)]
  refine congrArg (fun r : ℝ => (r : EReal)) ?_
  simp only [Bool.false_eq_true, if_false, one_mul, add_zero, Nat.cast_pow, Nat.cast_ofNat]
  rw [← zpow_natCast, ← zpow_add₀ (by norm_num)]
  refine congrArg (fun z : ℤ => (2 : ℝ) ^ z) ?_
  push_cast
  omega

/-- The float of exponent field 255 and no fraction is infinite. -/
theorem power_bits_top : Ideal.ofBits .f32 (IntOp.shli .vector (BitVec.ofNat 32 255) 23#32) = ⊤ := by
  obtain ⟨he, hf, hn⟩ := shifted_fields ⟨255, by omega⟩
  rw [shli_23]
  simp only at he hf hn
  simp [Ideal.ofBits, Ideal.ieee, he, hf, hn]

/-- One step of the search for the exponent field of `v`: keep the bit unless the power of two it gives exceeds `v`. -/
def step (v : EReal) (k bit : BitVec 32) : BitVec 32 :=
  if v < Ideal.ofBits .f32 (IntOp.shli .vector (IntOp.addi k bit) 23#32) then k else IntOp.addi k bit

/-- The exponent field the search finds. -/
def field (v : EReal) : BitVec 32 :=
  step v (step v (step v (step v (step v (step v (step v (step v 0#32 128#32) 64#32) 32#32) 16#32) 8#32) 4#32) 2#32) 1#32

/-- `K` is the exponent field of `v`: the powers of two above `v` are those of a greater exponent field. -/
def IsField (v : EReal) (K : ℕ) : Prop :=
  K ≤ 255 ∧ ∀ t, 1 ≤ t → t ≤ 255 → (v < Ideal.ofBits .f32 (IntOp.shli .vector (BitVec.ofNat 32 t) 23#32) ↔ K < t)

/-- A step halves the range in which the exponent field lies. -/
theorem step_range {v : EReal} {K : ℕ} (hK : IsField v K) (h : ℕ) (h0 : 0 < h) (k : BitVec 32)
    (hk : ∃ a, k = BitVec.ofNat 32 a ∧ a ≤ K ∧ K < a + 2 * h ∧ a + 2 * h ≤ 256) :
    ∃ a, step v k (BitVec.ofNat 32 h) = BitVec.ofNat 32 a ∧ a ≤ K ∧ K < a + h ∧ a + h ≤ 256 := by
  obtain ⟨a, rfl, h1, h2, h3⟩ := hk
  have hadd : IntOp.addi (BitVec.ofNat 32 a) (BitVec.ofNat 32 h) = BitVec.ofNat 32 (a + h) := (BitVec.ofNat_add a h).symm
  unfold step
  rw [hadd]
  by_cases hc : K < a + h
  · rw [if_pos ((hK.2 (a + h) (by omega) (by omega)).mpr hc)]
    exact ⟨a, rfl, h1, hc, by omega⟩
  · rw [if_neg (fun h' => hc ((hK.2 (a + h) (by omega) (by omega)).mp h'))]
    exact ⟨a + h, rfl, by omega, by omega, by omega⟩

/-- The search finds the exponent field. -/
theorem field_eq {v : EReal} {K : ℕ} (hK : IsField v K) : field v = BitVec.ofNat 32 K := by
  have h8 := step_range hK 128 (by norm_num) 0#32 ⟨0, rfl, by omega, by have := hK.1; omega, by omega⟩
  have h7 := step_range hK 64 (by norm_num) _ h8
  have h6 := step_range hK 32 (by norm_num) _ h7
  have h5 := step_range hK 16 (by norm_num) _ h6
  have h4 := step_range hK 8 (by norm_num) _ h5
  have h3 := step_range hK 4 (by norm_num) _ h4
  have h2 := step_range hK 2 (by norm_num) _ h3
  obtain ⟨a, ha, h1, h1', -⟩ := step_range hK 1 (by norm_num) _ h2
  have : a = K := by omega
  subst this
  exact ha

/-- The integer part of the binary logarithm. -/
def lg (v : ℝ) : ℤ := ⌊Real.log v / Real.log 2⌋

theorem lt_zpow_iff {v : ℝ} (hv : 0 < v) (z : ℤ) : v < (2 : ℝ) ^ z ↔ lg v < z := by
  unfold lg
  rw [Int.floor_lt, div_lt_iff₀ log_two_pos, ← Real.log_zpow, Real.log_lt_log_iff hv (by positivity)]

/-- The exponent field of a real between `2^-26` and 1. -/
theorem isField {v : ℝ} (h1 : (2 : ℝ) ^ (-26 : ℤ) ≤ v) (h2 : v < 1) :
    ∃ K : ℕ, IsField v K ∧ (K : ℤ) = lg v + 127 ∧ 100 ≤ K ∧ K ≤ 126 := by
  have hv : 0 < v := lt_of_lt_of_le (by positivity) h1
  have ha : lg v < 0 := (lt_zpow_iff hv 0).mp (by simpa using h2)
  have hb : ¬ lg v < -26 := fun h => absurd ((lt_zpow_iff hv (-26)).mpr h) (not_lt.mpr h1)
  refine ⟨(lg v + 127).toNat, ⟨by omega, fun t ht1 ht2 => ?_⟩, by omega, by omega, by omega⟩
  rcases Nat.lt_or_ge t 255 with h | h
  · rw [power_bits t ht1 (by omega), EReal.coe_lt_coe_iff, lt_zpow_iff hv]
    omega
  · obtain rfl : t = 255 := by omega
    rw [power_bits_top]
    exact ⟨fun _ => by omega, fun _ => EReal.coe_lt_top v⟩

/-! ### The scale and its reciprocal -/

/-- The reference's exponent of the scale: one more than the integer part of the binary logarithm. -/
def sexp (v : EReal) : EReal :=
  Ideal.liftRound Int.floor (Ideal.div (Ideal.log v) (Ideal.log (Ideal.ofBits .f32 0x40000000#32))) + 1

theorem sexp_eq {v : ℝ} (hv : 0 < v) : sexp v = (((lg v + 1 : ℤ) : ℝ) : EReal) := by
  unfold sexp lg
  rw [two_bits, Ideal.log_coe, Ideal.log_coe, if_neg (not_le.mpr hv), if_neg (not_le.mpr (by norm_num : (0 : ℝ) < 2)),
    Ideal.div_coe log_two_pos.ne', ← EReal.coe_mul, Ideal.liftRound_coe, mul_one_div]
  push_cast
  rfl

theorem exp2_int (z : ℤ) : Ideal.exp2 ((z : ℝ) : EReal) = (((2 : ℝ) ^ z : ℝ) : EReal) := by
  rw [Ideal.exp2_coe]
  exact congrArg (fun r : ℝ => (r : EReal)) (Real.rpow_intCast 2 z)

include hx

/-- The scale from the exponent field is the reference's power of two. -/
theorem scale_eq (hn : n ≤ 65536) :
    Ideal.ofBits .f32 (IntOp.shli .vector (IntOp.addi (field (mag x)) 1#32) 23#32) = Ideal.exp2 (sexp (mag x)) := by
  obtain ⟨v, hv, h1, h2⟩ := mag_bounds x hx hn
  obtain ⟨K, hK, hz, hl, hu⟩ := isField h1 h2
  have hv0 : 0 < v := lt_of_lt_of_le (by positivity) h1
  rw [hv, field_eq hK, sexp_eq hv0, exp2_int, show IntOp.addi (BitVec.ofNat 32 K) 1#32 = BitVec.ofNat 32 (K + 1) from
    (BitVec.ofNat_add K 1).symm, power_bits (K + 1) (by omega) (by omega)]
  congr 2
  push_cast
  omega

/-- The reciprocal of the scale from the exponent field is the reference's power of two of the opposite exponent. -/
theorem inv_scale_eq (hn : n ≤ 65536) :
    Ideal.ofBits .f32 (IntOp.shli .vector (IntOp.subi 253#32 (field (mag x))) 23#32) = Ideal.exp2 (0 - sexp (mag x)) := by
  obtain ⟨v, hv, h1, h2⟩ := mag_bounds x hx hn
  obtain ⟨K, hK, hz, hl, hu⟩ := isField h1 h2
  have hv0 : 0 < v := lt_of_lt_of_le (by positivity) h1
  have hs : IntOp.subi 253#32 (BitVec.ofNat 32 K) = BitVec.ofNat 32 (253 - K) := by
    refine BitVec.eq_of_toNat_eq ?_
    simp only [IntOp.subi, BitVec.toNat_sub, BitVec.toNat_ofNat]
    omega
  rw [hv, field_eq hK, sexp_eq hv0, hs, power_bits (253 - K) (by omega) (by omega), zero_sub, ← EReal.coe_neg,
    ← Int.cast_neg, exp2_int]
  congr 2
  omega

/-- The scaled probability: the reference's quotient by the sum and product by the power of two, as the kernel multiplies
    the exponential by the reciprocal of the sum times the reciprocal of the scale. -/
theorem code_eq (hn : n ≤ 65536) (a : EReal) :
    a * (Ideal.div 1 (tot x) * Ideal.ofBits .f32 (IntOp.shli .vector (IntOp.subi 253#32 (field (mag x))) 23#32))
      = Ideal.div a (tot x) * Ideal.exp2 (0 - sexp (mag x)) := by
  obtain ⟨r, hr, h1, -⟩ := tot_bounds x hx
  have hr0 : r ≠ 0 := by linarith
  rw [inv_scale_eq x hx hn, hr, Ideal.div_coe hr0, Ideal.div_coe hr0, one_mul, mul_assoc]

end Cert.RowMath
-- ==== Proof.Trips.lean ====
/- What the three loops of the body leave, over the extended reals: the first loop the running maxima of the row's lanes, the
   second the running sums of the exponentials and the exponentials themselves, the third the codes. -/
module
public import proofs.«01_k».proof.Proof.IdealFrame
public import proofs.«01_k».proof.Proof.RowMath
public import Idealize.ShloMosaic.Lib.Pointwise
public import Idealize.ShloMosaic.Lib.WholeRead
public import Idealize.ShloMosaic.PureOps.Ideal.Laws
@[expose] public section
set_option maxRecDepth 16384
noncomputable section
namespace Cert.KernelIdeal.Block
open Cert.KernelIdeal Cert.KernelIdeal.Gen Cert.RowMath
open Idealize.ShloMosaic Idealize.ShloMosaic.TcCoe Idealize.ShloMosaic.Tactic

/-- A column of a row, by its number; nothing past the last. -/
def col (X : S32x49152.Idx → EReal) (r : Fin 32) (t : ℕ) : EReal := if h : t < 49152 then X (ix2 r ⟨t, h⟩) else ⊥

/-- A column that there is. -/
theorem col_of_lt (X : S32x49152.Idx → EReal) (r : Fin 32) (t : ℕ) (h : t < 49152) : col X r t = X (ix2 r ⟨t, h⟩) := dif_pos h

/-- A load of consecutive columns of a whole buffer reads those columns. -/
theorem read_cols {e : EltTy} (A : Memref sig .tc .vmem S32x49152 e) (hA : A.IsWhole) (X : Vec Ideal S32x49152 e)
    (off : Fin 2 → ℕ) (o w : ℕ) (ho : off = ![0, o]) (inb : ∀ a, off a + ![32, w] a ≤ S32x49152.size a) (r : Fin 32) (l : Fin w) (hl : o + l.1 < 49152) :
    View.readAt (Elt Ideal) A.view (Rect.unit (s := S32x49152) off ![32, w] inb).toLoadRect (hA.unread X) (ix2 r l)
      = X (ix2 r ⟨o + l, hl⟩) := by
  subst ho
  rw [hA.readAt_unread]
  refine congrArg X (funext fun a => Fin.ext ?_)
  match a with
  | ⟨0, _⟩ => show 0 + 1 * r.1 = r.1; omega
  | ⟨1, _⟩ => show o + 1 * l.1 = o + l.1; omega

variable (c : Dev nD) (i : grid0.Coords)
  (arg1 : Memref sig .tc .vmem S32x49152 .bf16) (harg1 : arg1.IsWhole)
  (arg2 : Memref sig .tc .vmem S1x1x32 .f32) (harg2 : arg2.IsWhole)
  (arg3 : Memref sig .tc .vmem S32x49152 .fp8e4m3) (harg3 : arg3.IsWhole)
  (arg4 : Memref sig .tc .vmem S1x1x32 .f32) (harg4 : arg4.IsWhole)
  (arg5 : Memref sig .tc .vmem S32x49152 .f32) (harg5 : arg5.IsWhole)
  (X : Vec Ideal S32x49152 .bf16)

/-- A trip of the first loop, at the columns it loads. -/
theorem tripR1_eq (k : Fin k0_t1_loop.trips) (acc : FVec Ideal S32x128 .bf16) :
    tripR_k0_t1 (F := Ideal) Variants.none c none i arg1 harg1 arg2 harg2 arg3 harg3 arg4 harg4 arg5 harg5 (harg1.unread X) k acc
      = k0_pay16 acc (View.readAt (Elt Ideal) arg1.view
          (Rect.unit (s := S32x49152) (k0_off1 k) ![32, 512] (k0_off1_inb k)).toLoadRect (harg1.unread X)) := by
  unfold tripR_k0_t1 trip_k0_t1
  dsimp only

/-- A load of 128 columns of the block at a trip of the exponential loop. -/
abbrev rd2 (k : Fin k0_t2_loop.trips) (r : Fin 4) : Vec Ideal S32x128 .bf16 :=
  View.readAt (Elt Ideal) arg1.view
    (Rect.unit (s := S32x49152) (k0_off2 k (BitVec.ofNat 32 (128 * r.val))) ![32, 128] (k0_off2_inb k r)).toLoadRect (harg1.unread X)

/-- A trip of the second loop: what it carries on, at the columns it loads. -/
theorem tripR2_eq (v10 : FVec Ideal S32x128 .bf16) (k : Fin k0_t2_loop.trips) (acc : FVec Ideal S32x128 .f32) :
    tripR_k0_t2 (F := Ideal) Variants.none c none i arg1 harg1 arg2 harg2 arg3 harg3 arg4 harg4 arg5 harg5 v10 (harg1.unread X) k acc
      = k0_pay21 v10 (k0_pay9 (k0_pay17 v10) acc (rd2 arg1 harg1 X k 0) (rd2 arg1 harg1 X k 1))
          (k0_pay10 (k0_pay17 v10) (rd2 arg1 harg1 X k 2)) (rd2 arg1 harg1 X k 3) := by
  unfold tripR_k0_t2 trip_k0_t2
  dsimp only
  sl_unfold_words
  rfl

/-- A trip of the second loop: what it stores, the last store first. -/
theorem tripL2_eq (v10 : FVec Ideal S32x128 .bf16) (k : Fin k0_t2_loop.trips) (acc : FVec Ideal S32x128 .f32) :
    tripL_k0_t2 (F := Ideal) Variants.none c none i arg1 harg1 arg2 harg2 arg3 harg3 arg4 harg4 arg5 harg5 v10 (harg1.unread X) k acc
      = [⟨Rect.unit (s := S32x49152) (k0_off2 k (BitVec.ofNat 32 (128 * (3 : Fin 4).val))) ![32, 128] (k0_off2_inb k 3), k0_pay20 v10 (rd2 arg1 harg1 X k 3)⟩,
         ⟨Rect.unit (s := S32x49152) (k0_off2 k (BitVec.ofNat 32 (128 * (2 : Fin 4).val))) ![32, 128] (k0_off2_inb k 2), k0_pay11 (k0_pay17 v10) (rd2 arg1 harg1 X k 2)⟩,
         ⟨Rect.unit (s := S32x49152) (k0_off2 k (BitVec.ofNat 32 (128 * (1 : Fin 4).val))) ![32, 128] (k0_off2_inb k 1), k0_pay8 (k0_pay17 v10) (rd2 arg1 harg1 X k 1)⟩,
         ⟨Rect.unit (s := S32x49152) (k0_off2 k (BitVec.ofNat 32 (128 * (0 : Fin 4).val))) ![32, 128] (k0_off2_inb k 0), k0_pay6 (k0_pay17 v10) (rd2 arg1 harg1 X k 0)⟩] := by
  unfold tripL_k0_t2 trip_k0_t2
  dsimp only
  sl_unfold_words
  rfl

/-- A load of 128 columns of the exponentials at a trip of the third loop. -/
abbrev rd3 (Y : Vec Ideal S32x49152 .f32) (k : Fin k0_t3_loop.trips) (r : Fin 4) : Vec Ideal S32x128 .f32 :=
  View.readAt (Elt Ideal) arg5.view
    (Rect.unit (s := S32x49152) (k0_off3 k (BitVec.ofNat 32 (128 * r.val))) ![32, 128] (k0_off3_inb k r)).toLoadRect (harg5.unread Y)

/-- A trip of the third loop: what it stores, the last store first. -/
theorem tripL3_eq (Y : Vec Ideal S32x49152 .f32) (v22 : FVec Ideal S32x1 .f32) (v81 : IVec S32x1 32) (k : Fin k0_t3_loop.trips) :
    tripL_k0_t3 (F := Ideal) Variants.none c none i arg1 harg1 arg2 harg2 arg3 harg3 arg4 harg4 arg5 harg5 v22 v81 (harg5.unread Y) k
      = [⟨Rect.unit (s := S32x49152) (k0_off3 k (BitVec.ofNat 32 (128 * (3 : Fin 4).val))) ![32, 128] (k0_off3_inb k 3), k0_pay2 v22 v81 (rd3 arg5 harg5 Y k 3)⟩,
         ⟨Rect.unit (s := S32x49152) (k0_off3 k (BitVec.ofNat 32 (128 * (2 : Fin 4).val))) ![32, 128] (k0_off3_inb k 2), k0_pay14 (k0_pay1 v22 v81) (rd3 arg5 harg5 Y k 2)⟩,
         ⟨Rect.unit (s := S32x49152) (k0_off3 k (BitVec.ofNat 32 (128 * (1 : Fin 4).val))) ![32, 128] (k0_off3_inb k 1), k0_pay13 (k0_pay1 v22 v81) (rd3 arg5 harg5 Y k 1)⟩,
         ⟨Rect.unit (s := S32x49152) (k0_off3 k (BitVec.ofNat 32 (128 * (0 : Fin 4).val))) ![32, 128] (k0_off3_inb k 0), k0_pay12 (k0_pay1 v22 v81) (rd3 arg5 harg5 Y k 0)⟩] := by
  unfold tripL_k0_t3 trip_k0_t3
  dsimp only
  sl_unfold_words
  rfl

/-! ### The first loop: the greatest logit of a row -/

/-- The greatest of the first `n` logits of lane `l` of a row, a lane's logits lying 128 columns apart. -/
def laneMax (X : S32x49152.Idx → EReal) (r : Fin 32) (l : Fin 128) (n : ℕ) : EReal :=
  (Finset.range n).sup fun t => col X r (128 * t + l)

theorem laneMax_succ (X : S32x49152.Idx → EReal) (r : Fin 32) (l : Fin 128) (n : ℕ) :
    laneMax X r l (n + 1) = max (laneMax X r l n) (col X r (128 * n + l)) := by
  unfold laneMax
  rw [Finset.range_add_one, Finset.sup_insert, sup_comm]

/-- What the first chunk of columns leaves. -/
theorem pay15_eq (r : Fin 32) (l : Fin 128) (inb) :
    k0_pay15 (View.readAt (Elt Ideal) arg1.view (Rect.unit (s := S32x49152) ![0, 0] ![32, 512] inb).toLoadRect (harg1.unread X)) (ix2 r l)
      = laneMax X r l 4 := by
  have hl := l.2
  unfold k0_pay15
  pointwise
  rw [read_cols arg1 harg1 X _ 0 512 rfl inb r ⟨l, by omega⟩ (by simp only; omega),
    read_cols arg1 harg1 X _ 0 512 rfl inb r ⟨128 + l, by omega⟩ (by simp only; omega),
    read_cols arg1 harg1 X _ 0 512 rfl inb r ⟨256 + l, by omega⟩ (by simp only; omega),
    read_cols arg1 harg1 X _ 0 512 rfl inb r ⟨384 + l, by omega⟩ (by simp only; omega)]
  rw [laneMax_succ, laneMax_succ, laneMax_succ, laneMax_succ, laneMax, Finset.range_zero, Finset.sup_empty, max_bot_left,
    col_of_lt X r _ (by omega), col_of_lt X r _ (by omega), col_of_lt X r _ (by omega), col_of_lt X r _ (by omega)]
  simp only [Nat.mul_zero, Nat.zero_add, Nat.mul_one]

/-- What a further trip leaves. -/
theorem pay16_eq (k : Fin k0_t1_loop.trips) (acc : FVec Ideal S32x128 .bf16) (r : Fin 32) (l : Fin 128)
    (h : acc (ix2 r l) = laneMax X r l (4 * (k.1 + 1))) :
    k0_pay16 acc (View.readAt (Elt Ideal) arg1.view
        (Rect.unit (s := S32x49152) (k0_off1 k) ![32, 512] (k0_off1_inb k)).toLoadRect (harg1.unread X)) (ix2 r l)
      = laneMax X r l (4 * (k.1 + 1 + 1)) := by
  have hl := l.2
  have hk : k.1 < 95 := lt_of_lt_of_le k.2 k0_t1_abs.2.1
  unfold k0_pay16
  pointwise
  rw [read_cols arg1 harg1 X _ _ 512 (k0_off1_eq k) _ r ⟨l, by omega⟩ (by simp only; omega),
    read_cols arg1 harg1 X _ _ 512 (k0_off1_eq k) _ r ⟨128 + l, by omega⟩ (by simp only; omega),
    read_cols arg1 harg1 X _ _ 512 (k0_off1_eq k) _ r ⟨256 + l, by omega⟩ (by simp only; omega),
    read_cols arg1 harg1 X _ _ 512 (k0_off1_eq k) _ r ⟨384 + l, by omega⟩ (by simp only; omega), h]
  rw [show 4 * (k.1 + 1 + 1) = 4 * (k.1 + 1) + 1 + 1 + 1 + 1 by ring, laneMax_succ, laneMax_succ, laneMax_succ, laneMax_succ,
    col_of_lt X r _ (by omega), col_of_lt X r _ (by omega), col_of_lt X r _ (by omega), col_of_lt X r _ (by omega)]
  congr 1
  · congr 1
    · congr 1
      · congr 1
        refine congrArg X (congrArg (ix2 r) (Fin.ext ?_)); simp only; omega
      refine congrArg X (congrArg (ix2 r) (Fin.ext ?_)); simp only; omega
    refine congrArg X (congrArg (ix2 r) (Fin.ext ?_)); simp only; omega
  refine congrArg X (congrArg (ix2 r) (Fin.ext ?_)); simp only; omega

/-- What the first loop carries after `k` trips. -/
theorem st1_eq (init : FVec Ideal S32x128 .bf16) (h0 : ∀ r l, init (ix2 r l) = laneMax X r l 4) :
    ∀ k, k ≤ k0_t1_loop.trips → ∀ (r : Fin 32) (l : Fin 128),
      st_k0_t1 (F := Ideal) Variants.none c none i arg1 harg1 arg2 harg2 arg3 harg3 arg4 harg4 arg5 harg5 (harg1.unread X) init k (ix2 r l) = laneMax X r l (4 * (k + 1))
  | 0, _, r, l => by rw [st_k0_t1_zero]; exact h0 r l
  | k + 1, hk, r, l => by
    have ih := st1_eq init h0 k (by omega) r l
    refine (congrFun (st_k0_t1_succ Variants.none c none i arg1 harg1 arg2 harg2 arg3 harg3 arg4 harg4 arg5 harg5 (harg1.unread X) init ⟨k, hk⟩) (ix2 r l)).trans ?_
    rw [tripR1_eq]
    exact pay16_eq arg1 harg1 X ⟨k, hk⟩ _ r l ih

/-- A row of the block. -/
def row (X : S32x49152.Idx → EReal) (r : Fin 32) : Fin 49152 → EReal := fun j => X (ix2 r j)

/-- The greatest of the lanes' greatest logits is the row's. -/
theorem sup_lanes (r : Fin 32) : (Finset.univ.sup fun l => laneMax X r l 384) = rmax (row X r) := by
  refine le_antisymm (Finset.sup_le fun l _ => Finset.sup_le fun t ht => ?_) (Finset.sup_le fun j _ => ?_)
  · have ht' := Finset.mem_range.mp ht
    have hl := l.2
    rw [col_of_lt _ _ _ (by omega)]
    exact Finset.le_sup (f := row X r) (Finset.mem_univ _)
  · have hj := j.2
    have h1 : col X r (128 * (j.1 / 128) + (⟨j.1 % 128, by omega⟩ : Fin 128).1) = row X r j := by
      rw [col_of_lt _ _ _ (by simp only; omega)]
      exact congrArg X (congrArg (ix2 r) (Fin.ext (by simp only; omega)))
    rw [← h1]
    exact (Finset.le_sup (f := fun t => col X r (128 * t + (⟨j.1 % 128, by omega⟩ : Fin 128).1))
      (Finset.mem_range.mpr (by omega : j.1 / 128 < 384))).trans
      (Finset.le_sup (f := fun l => laneMax X r l 384) (Finset.mem_univ _))

/-- The row's greatest logit in every lane. -/
theorem pay17_eq (v10 : FVec Ideal S32x128 .bf16) (h : ∀ r l, v10 (ix2 r l) = laneMax X r l 384) (r : Fin 32) (l : Fin 128) :
    k0_pay17 v10 (ix2 r l) = rmax (row X r) := by
  unfold k0_pay17
  pointwise
  rw [negInf_bits, fold_max_eq_sup, ← sup_lanes]
  exact congrArg _ (funext fun l => h r l)

/-! ### The second loop: the exponentials and their sum -/

theorem scale_named : Named.named (F := Ideal) κ "exp2_scale" (φ := .f32) 0x3FE6D4CA#32 = (slope : EReal) :=
  IdealRules.named_const.ideal_named_scalar _ _ _ _ rfl

theorem pay5_eq (v15 : FVec Ideal S32x128 .f32) (v : Vec Ideal S32x128 .bf16) (y : S32x128.Idx) :
    k0_pay5 v15 v y = Ideal.exp2 ((v y - v15 y) * slope) := by
  unfold k0_pay5; pointwise; rw [scale_named]; rfl

theorem pay6_eq (v15 : FVec Ideal S32x128 .f32) (v : Vec Ideal S32x128 .bf16) (y : S32x128.Idx) :
    k0_pay6 v15 v y = Ideal.exp2 ((v y - v15 y) * slope) := by
  unfold k0_pay6 k0_pay5; pointwise; rw [scale_named]; rfl

theorem pay7_eq (v15 : FVec Ideal S32x128 .f32) (v : Vec Ideal S32x128 .bf16) (y : S32x128.Idx) :
    k0_pay7 v15 v y = Ideal.exp2 ((v y - v15 y) * slope) := by
  unfold k0_pay7; pointwise; rw [scale_named]; rfl

theorem pay8_eq (v15 : FVec Ideal S32x128 .f32) (v : Vec Ideal S32x128 .bf16) (y : S32x128.Idx) :
    k0_pay8 v15 v y = Ideal.exp2 ((v y - v15 y) * slope) := by
  unfold k0_pay8 k0_pay7; pointwise; rw [scale_named]; rfl

theorem pay10_eq (v15 : FVec Ideal S32x128 .f32) (v : Vec Ideal S32x128 .bf16) (y : S32x128.Idx) :
    k0_pay10 v15 v y = Ideal.exp2 ((v y - v15 y) * slope) := by
  unfold k0_pay10; pointwise; rw [scale_named]; rfl

theorem pay11_eq (v15 : FVec Ideal S32x128 .f32) (v : Vec Ideal S32x128 .bf16) (y : S32x128.Idx) :
    k0_pay11 v15 v y = Ideal.exp2 ((v y - v15 y) * slope) := by
  unfold k0_pay11 k0_pay10; pointwise; rw [scale_named]; rfl

theorem pay19_eq (v10 : FVec Ideal S32x128 .bf16) (v : Vec Ideal S32x128 .bf16) (y : S32x128.Idx) :
    k0_pay19 v10 v y = Ideal.exp2 ((v y - k0_pay17 v10 y) * slope) := by
  unfold k0_pay19; pointwise; rw [scale_named]; rfl

theorem pay20_eq (v10 : FVec Ideal S32x128 .bf16) (v : Vec Ideal S32x128 .bf16) (y : S32x128.Idx) :
    k0_pay20 v10 v y = Ideal.exp2 ((v y - k0_pay17 v10 y) * slope) := by
  unfold k0_pay20 k0_pay19; pointwise; rw [scale_named]; rfl

/-- The exponentials of the whole block. -/
def expG (X : S32x49152.Idx → EReal) : S32x49152.Idx → EReal := fun y => ex (row X (y 0)) (y 1)

/-- The exponential at a column that a trip of the second loop loads. -/
theorem exp_at (v15 : FVec Ideal S32x128 .f32) (h : ∀ r l, v15 (ix2 r l) = rmax (row X r)) (k : Fin k0_t2_loop.trips) (q : Fin 4)
    (r : Fin 32) (l : Fin 128) :
    Ideal.exp2 ((rd2 arg1 harg1 X k q (ix2 r l) - v15 (ix2 r l)) * slope) = col (expG X) r (128 * (4 * k.1 + q.1) + l) := by
  have hk : k.1 < 96 := lt_of_lt_of_le k.2 k0_t2_abs.2.1
  have hl := l.2
  have hq := q.2
  rw [h]
  unfold rd2
  rw [read_cols arg1 harg1 X _ _ 128 (k0_off2_eq k q) _ r l (by omega), col_of_lt _ _ _ (by omega)]
  unfold expG ex
  refine congrArg Ideal.exp2 (congrArg (· * _) (congrArg (· - _) ?_))
  exact congrArg X (congrArg (ix2 r) (Fin.ext (by simp only [ix2_1]; omega)))

/-- The sum of the first `n` exponentials of lane `l` of a row. -/
def laneSum (X : S32x49152.Idx → EReal) (r : Fin 32) (l : Fin 128) (n : ℕ) : EReal :=
  ∑ t ∈ Finset.range n, col (expG X) r (128 * t + l)

/-- What a trip of the second loop carries on. -/
theorem pay21_eq (v10 : FVec Ideal S32x128 .bf16) (h : ∀ r l, k0_pay17 v10 (ix2 r l) = rmax (row X r)) (k : Fin k0_t2_loop.trips)
    (acc : FVec Ideal S32x128 .f32) (r : Fin 32) (l : Fin 128) (ha : acc (ix2 r l) = laneSum X r l (4 * k.1)) :
    k0_pay21 v10 (k0_pay9 (k0_pay17 v10) acc (rd2 arg1 harg1 X k 0) (rd2 arg1 harg1 X k 1))
          (k0_pay10 (k0_pay17 v10) (rd2 arg1 harg1 X k 2)) (rd2 arg1 harg1 X k 3) (ix2 r l)
      = laneSum X r l (4 * (k.1 + 1)) := by
  unfold k0_pay21 k0_pay9
  pointwise
  rw [pay5_eq, pay7_eq, pay10_eq, pay19_eq, exp_at arg1 harg1 X _ h, exp_at arg1 harg1 X _ h, exp_at arg1 harg1 X _ h,
    exp_at arg1 harg1 X _ h, ha, show 4 * (k.1 + 1) = 4 * k.1 + 1 + 1 + 1 + 1 by ring]
  unfold laneSum
  simp only [Finset.sum_range_succ]
  rfl

/-- What the second loop carries after `k` trips. -/
theorem st2_eq (v10 : FVec Ideal S32x128 .bf16) (h : ∀ r l, k0_pay17 v10 (ix2 r l) = rmax (row X r)) :
    ∀ k, k ≤ k0_t2_loop.trips → ∀ (r : Fin 32) (l : Fin 128),
      (st_k0_t2 (F := Ideal) Variants.none c none i arg1 harg1 arg2 harg2 arg3 harg3 arg4 harg4 arg5 harg5 v10 (harg1.unread X) k0_pay18 k).1 (ix2 r l) = laneSum X r l (4 * k)
  | 0, _, r, l => by
    rw [st_k0_t2_zero]
    unfold k0_pay18
    pointwise
    simp [laneSum]
  | k + 1, hk, r, l => by
    have ih := st2_eq v10 h k (by omega) r l
    refine (congrFun (congrArg Prod.fst (st_k0_t2_succ Variants.none c none i arg1 harg1 arg2 harg2 arg3 harg3 arg4 harg4 arg5 harg5 v10 (harg1.unread X) k0_pay18 ⟨k, hk⟩)) (ix2 r l)).trans ?_
    dsimp only
    rw [tripR2_eq]
    exact pay21_eq arg1 harg1 X v10 h ⟨k, hk⟩ _ r l ih

/-- The place of 128 consecutive columns in the block. -/
theorem emb_cols (off : Fin 2 → ℕ) (o : ℕ) (ho : off = ![0, o]) (inb : ∀ a, off a + ![32, 128] a ≤ S32x49152.size a)
    (r : Fin 32) (l : Fin 128) (hl : o + l.1 < 49152) :
    (Rect.unit (s := S32x49152) off ![32, 128] inb).emb (ix2 r l) = ix2 r ⟨o + l, hl⟩ := by
  subst ho
  refine funext fun a => Fin.ext ?_
  match a with
  | ⟨0, _⟩ => show 0 + 1 * r.1 = r.1; omega
  | ⟨1, _⟩ => show o + 1 * l.1 = o + l.1; omega

/-- The exponentials that a trip of the second loop stores. -/
theorem piece2_eq (v15 : FVec Ideal S32x128 .f32) (h : ∀ r l, v15 (ix2 r l) = rmax (row X r)) (k : Fin k0_t2_loop.trips) (q : Fin 4)
    (x : S32x128.Idx) :
    Ideal.exp2 ((rd2 arg1 harg1 X k q x - v15 x) * slope)
      = expG X ((Rect.unit (s := S32x49152) (k0_off2 k (BitVec.ofNat 32 (128 * q.val))) ![32, 128] (k0_off2_inb k q)).emb x) := by
  have hk : k.1 < 96 := lt_of_lt_of_le k.2 k0_t2_abs.2.1
  have hq := q.2
  obtain ⟨r, l, rfl⟩ : ∃ (r : Fin 32) (l : Fin 128), x = ix2 r l := ⟨x 0, x 1, eq_ix2 x⟩
  have hl := l.2
  rw [exp_at arg1 harg1 X _ h, emb_cols _ _ (k0_off2_eq k q) _ r l (by omega), col_of_lt _ _ _ (by omega)]
  exact congrArg (expG X) (congrArg (ix2 r) (Fin.ext (by simp only; omega)))

/-- Everything the second loop stores is the exponentials, in place. -/
theorem pieces2 (v10 : FVec Ideal S32x128 .bf16) (h : ∀ r l, k0_pay17 v10 (ix2 r l) = rmax (row X r)) :
    ∀ k, k ≤ k0_t2_loop.trips →
      ∀ p ∈ (st_k0_t2 (F := Ideal) Variants.none c none i arg1 harg1 arg2 harg2 arg3 harg3 arg4 harg4 arg5 harg5 v10 (harg1.unread X) k0_pay18 k).2, ∀ x : p.1.shape.Idx, p.2 x = expG X (p.1.emb x)
  | 0, _, p, hp => by
    have : p ∈ ([] : List (View.Piece (Elt Ideal) S32x49152 .f32)) := hp
    simp at this
  | k + 1, hk, p, hp => by
    rw [congrArg Prod.snd (st_k0_t2_succ Variants.none c none i arg1 harg1 arg2 harg2 arg3 harg3 arg4 harg4 arg5 harg5 v10 (harg1.unread X) k0_pay18 ⟨k, hk⟩)] at hp
    dsimp only at hp
    rw [tripL2_eq, List.mem_append] at hp
    rcases hp with hp | hp
    · simp only [List.mem_cons, List.not_mem_nil, or_false] at hp
      rcases hp with rfl | rfl | rfl | rfl
      · exact fun x => (pay20_eq _ _ x).trans (piece2_eq arg1 harg1 X _ h ⟨k, hk⟩ 3 x)
      · exact fun x => (pay11_eq _ _ x).trans (piece2_eq arg1 harg1 X _ h ⟨k, hk⟩ 2 x)
      · exact fun x => (pay8_eq _ _ x).trans (piece2_eq arg1 harg1 X _ h ⟨k, hk⟩ 1 x)
      · exact fun x => (pay6_eq _ _ x).trans (piece2_eq arg1 harg1 X _ h ⟨k, hk⟩ 0 x)
    · exact pieces2 v10 h k (by omega) p hp

/-- The sum of the lanes' sums of exponentials is the row's. -/
theorem sum_lanes (r : Fin 32) : ∑ l : Fin 128, laneSum X r l 384 = tot (row X r) := by
  unfold laneSum tot
  rw [Finset.sum_comm, Finset.sum_range, ← (finProdFinEquiv (m := 384) (n := 128)).sum_comp (fun j : Fin (384 * 128) => ex (row X r) j),
    Fintype.sum_prod_type]
  refine Finset.sum_congr rfl fun t _ => Finset.sum_congr rfl fun l _ => ?_
  have ht := t.2
  have hl := l.2
  rw [col_of_lt _ _ _ (by omega)]
  unfold expG
  simp only [ix2_0, ix2_1]
  refine congrArg (ex (row X r)) (Fin.ext ?_)
  simp [finProdFinEquiv]
  omega

/-! ### The sum's uses: the logarithm, the reciprocal, the exponent field -/

theorem pay22_eq (v18 : FVec Ideal S32x128 .f32) (h : ∀ r l, v18 (ix2 r l) = laneSum X r l 384) (r : Fin 32) (z : Fin 1) :
    k0_pay22 v18 (ix2 r z) = tot (row X r) := by
  unfold k0_pay22
  pointwise
  rw [← sum_lanes]
  exact Finset.sum_congr rfl fun l _ => h r l

theorem pay23_eq (v18 : FVec Ideal S32x128 .f32) (h : ∀ r l, v18 (ix2 r l) = laneSum X r l 384) (r : Fin 32) (z : Fin 1) :
    k0_pay23 v18 (ix2 r z) = Ideal.div 1 (tot (row X r)) := by
  rw [← pay22_eq X v18 h r z]
  unfold k0_pay23
  pointwise

theorem pay24_eq (v18 : FVec Ideal S32x128 .f32) (h : ∀ r l, v18 (ix2 r l) = laneSum X r l 384) (r : Fin 32) (z : Fin 1) :
    k0_pay24 v18 (ix2 r z) = mag (row X r) := by
  unfold mag
  rw [← pay23_eq X v18 h r z]
  unfold k0_pay24
  pointwise

/-- The search of the body finds the exponent field. -/
theorem pay28_eq (v18 : FVec Ideal S32x128 .f32) (h : ∀ r l, v18 (ix2 r l) = laneSum X r l 384) (r : Fin 32) (z : Fin 1) :
    k0_pay28 (k0_pay24 v18) (k0_pay25 v18) (k0_pay26 v18) (k0_pay27 v18) (ix2 r z) = field (mag (row X r)) := by
  rw [← pay24_eq X v18 h r z]
  unfold k0_pay28 k0_pay27 k0_pay26 k0_pay25 field step
  pointwise

/-! ### The third loop: the codes -/

/-- The code of a row's exponential `e`, from the reciprocal of the sum and the exponent field: the product, clipped. -/
def code (v22 : FVec Ideal S32x1 .f32) (v81 : IVec S32x1 32) (r : Fin 32) (e : EReal) : EReal :=
  min (Ideal.ofBits .f32 0x43E00000#32) (max 0
    (e * (v22 (ix2 r 0) * Ideal.ofBits .f32 (IntOp.shli .vector (IntOp.subi 253#32 (v81 (ix2 r 0))) 23#32))))

variable (v22 : FVec Ideal S32x1 .f32) (v81 : IVec S32x1 32) (Y : Vec Ideal S32x49152 .f32)

theorem pay12_eq (v : Vec Ideal S32x128 .f32) (y : S32x128.Idx) :
    k0_pay12 (k0_pay1 v22 v81) v y = code v22 v81 (y 0) (v y) := by
  unfold k0_pay12 k0_pay1 code; pointwise

theorem pay13_eq (v : Vec Ideal S32x128 .f32) (y : S32x128.Idx) :
    k0_pay13 (k0_pay1 v22 v81) v y = code v22 v81 (y 0) (v y) := by
  unfold k0_pay13 k0_pay1 code; pointwise

theorem pay14_eq (v : Vec Ideal S32x128 .f32) (y : S32x128.Idx) :
    k0_pay14 (k0_pay1 v22 v81) v y = code v22 v81 (y 0) (v y) := by
  unfold k0_pay14 k0_pay1 code; pointwise

theorem pay2_eq (v : Vec Ideal S32x128 .f32) (y : S32x128.Idx) :
    k0_pay2 v22 v81 v y = code v22 v81 (y 0) (v y) := by
  unfold k0_pay2 k0_pay1 code; pointwise

/-- The codes of the whole block. -/
def codeG : S32x49152.Idx → EReal := fun y => code v22 v81 (y 0) (Y y)

/-- The codes that a trip of the third loop stores. -/
theorem piece3_eq (k : Fin k0_t3_loop.trips) (q : Fin 4) (x : S32x128.Idx) :
    code v22 v81 (x 0) (rd3 arg5 harg5 Y k q x)
      = codeG v22 v81 Y ((Rect.unit (s := S32x49152) (k0_off3 k (BitVec.ofNat 32 (128 * q.val))) ![32, 128] (k0_off3_inb k q)).emb x) := by
  have hk : k.1 < 96 := lt_of_lt_of_le k.2 k0_t3_abs.2.1
  have hq := q.2
  obtain ⟨r, l, rfl⟩ : ∃ (r : Fin 32) (l : Fin 128), x = ix2 r l := ⟨x 0, x 1, eq_ix2 x⟩
  have hl := l.2
  unfold rd3
  rw [read_cols arg5 harg5 Y _ _ 128 (k0_off3_eq k q) _ r l (by omega), emb_cols _ _ (k0_off3_eq k q) _ r l (by omega)]
  rfl

/-- Everything the third loop stores is the codes, in place. -/
theorem pieces3 :
    ∀ k, k ≤ k0_t3_loop.trips →
      ∀ p ∈ (pb_k0_t3 (F := Ideal) Variants.none c none i arg1 harg1 arg2 harg2 arg3 harg3 arg4 harg4 arg5 harg5 v22 v81 (harg5.unread Y) k), ∀ x : p.1.shape.Idx, p.2 x = codeG v22 v81 Y (p.1.emb x)
  | 0, _, p, hp => by
    have : p ∈ ([] : List (View.Piece (Elt Ideal) S32x49152 .fp8e4m3)) := hp
    simp at this
  | k + 1, hk, p, hp => by
    rw [pb_k0_t3_succ Variants.none c none i arg1 harg1 arg2 harg2 arg3 harg3 arg4 harg4 arg5 harg5 v22 v81 (harg5.unread Y) ⟨k, hk⟩] at hp
    rw [tripL3_eq, List.mem_append] at hp
    rcases hp with hp | hp
    · simp only [List.mem_cons, List.not_mem_nil, or_false] at hp
      rcases hp with rfl | rfl | rfl | rfl
      · exact fun x => (pay2_eq v22 v81 _ x).trans (piece3_eq arg5 harg5 v22 v81 Y ⟨k, hk⟩ 3 x)
      · exact fun x => (pay14_eq v22 v81 _ x).trans (piece3_eq arg5 harg5 v22 v81 Y ⟨k, hk⟩ 2 x)
      · exact fun x => (pay13_eq v22 v81 _ x).trans (piece3_eq arg5 harg5 v22 v81 Y ⟨k, hk⟩ 1 x)
      · exact fun x => (pay12_eq v22 v81 _ x).trans (piece3_eq arg5 harg5 v22 v81 Y ⟨k, hk⟩ 0 x)
    · exact pieces3 k (by omega) p hp

end Cert.KernelIdeal.Block

end
-- ==== Proof.Block.lean ====
/- What the body leaves in its three result blocks, over the extended reals: for a block of 32 rows of logits, each row's
   logarithm of the sum of its exponentials, its codes and its scale. -/
module

public import proofs.«01_k».proof.Proof.Trips

@[expose] public section

set_option maxRecDepth 16384

noncomputable section

namespace Cert.KernelIdeal.Block

open Cert.KernelIdeal Cert.KernelIdeal.Gen Cert.RowMath
open Idealize.ShloMosaic Idealize.ShloMosaic.TcCoe Idealize.ShloMosaic.Tactic

variable (c : Dev nD) (i : grid0.Coords)
  (arg1 : Memref sig .tc .vmem S32x49152 .bf16) (harg1 : arg1.IsWhole)
  (arg2 : Memref sig .tc .vmem S1x1x32 .f32) (harg2 : arg2.IsWhole)
  (arg3 : Memref sig .tc .vmem S32x49152 .fp8e4m3) (harg3 : arg3.IsWhole)
  (arg4 : Memref sig .tc .vmem S1x1x32 .f32) (harg4 : arg4.IsWhole)
  (arg5 : Memref sig .tc .vmem S32x49152 .f32) (harg5 : arg5.IsWhole)
  (X : Vec Ideal S32x49152 .bf16)

/-- The first loop's result. -/
abbrev lanes1 : FVec Ideal S32x128 .bf16 :=
  st_k0_t1 (F := Ideal) Variants.none c none i arg1 harg1 arg2 harg2 arg3 harg3 arg4 harg4 arg5 harg5 (harg1.unread X)
    (k0_pay15 (View.readAt (Elt Ideal) arg1.view (Rect.unit (s := S32x49152) ![0, 0] S32x512.size inb_S32x49152_S32x512_0_0).toLoadRect (harg1.unread X)))
    (Scf.trips k0_t1_loop.lb k0_t1_loop.ub k0_t1_loop.st)

/-- The second loop's result: the lanes' sums and what it stored. -/
abbrev state2 : FVec Ideal S32x128 .f32 × List (View.Piece (Elt Ideal) S32x49152 .f32) :=
  st_k0_t2 (F := Ideal) Variants.none c none i arg1 harg1 arg2 harg2 arg3 harg3 arg4 harg4 arg5 harg5 (lanes1 c i arg1 harg1 arg2 harg2 arg3 harg3 arg4 harg4 arg5 harg5 X) (harg1.unread X) k0_pay18 (Scf.trips k0_t2_loop.lb k0_t2_loop.ub k0_t2_loop.st)

/-- The lanes' greatest logits. -/
theorem lanes1_eq (r : Fin 32) (l : Fin 128) :
    lanes1 c i arg1 harg1 arg2 harg2 arg3 harg3 arg4 harg4 arg5 harg5 X (ix2 r l) = laneMax X r l 384 :=
  st1_eq c i arg1 harg1 arg2 harg2 arg3 harg3 arg4 harg4 arg5 harg5 X _ (fun r l => pay15_eq arg1 harg1 X r l _) 95 (le_of_eq rfl) r l

/-- The row's greatest logit. -/
theorem rowMax_eq (r : Fin 32) (l : Fin 128) :
    k0_pay17 (lanes1 c i arg1 harg1 arg2 harg2 arg3 harg3 arg4 harg4 arg5 harg5 X) (ix2 r l) = rmax (row X r) :=
  pay17_eq X _ (lanes1_eq c i arg1 harg1 arg2 harg2 arg3 harg3 arg4 harg4 arg5 harg5 X) r l

/-- The lanes' sums of exponentials. -/
theorem sums_eq (r : Fin 32) (l : Fin 128) :
    (state2 c i arg1 harg1 arg2 harg2 arg3 harg3 arg4 harg4 arg5 harg5 X).1 (ix2 r l) = laneSum X r l 384 :=
  st2_eq c i arg1 harg1 arg2 harg2 arg3 harg3 arg4 harg4 arg5 harg5 X _ (rowMax_eq c i arg1 harg1 arg2 harg2 arg3 harg3 arg4 harg4 arg5 harg5 X) 96 (le_of_eq rfl) r l

/-- The scratch after the second loop holds the exponentials. -/
theorem scratch_exp :
    View.canon (state2 c i arg1 harg1 arg2 harg2 arg3 harg3 arg4 harg4 arg5 harg5 X).2 = expG X := by
  funext y
  exact View.canon_apply_of_pieces (Val := Elt Ideal) (expG X) _
    (pieces2 c i arg1 harg1 arg2 harg2 arg3 harg3 arg4 harg4 arg5 harg5 X _ (rowMax_eq c i arg1 harg1 arg2 harg2 arg3 harg3 arg4 harg4 arg5 harg5 X) 96 (le_of_eq rfl)) y
    (Body.scratch_cover c i arg1 harg1 arg2 harg2 arg3 harg3 arg4 harg4 arg5 harg5 _ _ y)

/-- The first result's one store is the logarithm of the sum. -/
theorem out1_eq (z0 z1 : Fin 1) (r : Fin 32) :
    Body.out0_A_1 (F := Ideal) c i arg1 harg1 arg2 harg2 arg3 harg3 arg4 harg4 arg5 harg5 X (ix3 z0 z1 r) = Ideal.log (tot (row X r)) := by
  unfold Body.out0_A_1
  rw [View.read_writes_eq_canon _ _ _ (Body.cover0_A_1 c i arg1 harg1 arg2 harg2 arg3 harg3 arg4 harg4 arg5 harg5 X)]
  unfold Body.kernelRun0_A
  dsimp only
  sl_unfold_words
  rw [View.canon_unit_zero (by decide)]
  change k0_pay3 (k0_pay22 (state2 c i arg1 harg1 arg2 harg2 arg3 harg3 arg4 harg4 arg5 harg5 X).1) (ix3 z0 z1 r) = _
  unfold k0_pay3
  pointwise
  exact congrArg Ideal.log (pay22_eq X _ (sums_eq c i arg1 harg1 arg2 harg2 arg3 harg3 arg4 harg4 arg5 harg5 X) r 0)

/-- The third result's one store is the power of two after the exponent field. -/
theorem out3_eq (z0 z1 : Fin 1) (r : Fin 32) :
    Body.out0_A_3 (F := Ideal) c i arg1 harg1 arg2 harg2 arg3 harg3 arg4 harg4 arg5 harg5 X (ix3 z0 z1 r)
      = Ideal.ofBits .f32 (IntOp.shli .vector (IntOp.addi (field (mag (row X r))) 1#32) 23#32) := by
  unfold Body.out0_A_3
  rw [View.read_writes_eq_canon _ _ _ (Body.cover0_A_3 c i arg1 harg1 arg2 harg2 arg3 harg3 arg4 harg4 arg5 harg5 X)]
  unfold Body.kernelRun0_A
  dsimp only
  sl_unfold_words
  rw [View.canon_unit_zero (by decide)]
  change k0_pay4 (k0_pay29 (k0_pay24 (state2 c i arg1 harg1 arg2 harg2 arg3 harg3 arg4 harg4 arg5 harg5 X).1) (k0_pay25 (state2 c i arg1 harg1 arg2 harg2 arg3 harg3 arg4 harg4 arg5 harg5 X).1) (k0_pay26 (state2 c i arg1 harg1 arg2 harg2 arg3 harg3 arg4 harg4 arg5 harg5 X).1)
    (k0_pay27 (state2 c i arg1 harg1 arg2 harg2 arg3 harg3 arg4 harg4 arg5 harg5 X).1)) k0_pay30 (ix3 z0 z1 r) = _
  unfold k0_pay4 k0_pay29 k0_pay30
  pointwise
  rw [pay28_eq X _ (sums_eq c i arg1 harg1 arg2 harg2 arg3 harg3 arg4 harg4 arg5 harg5 X) r 0]

/-- The exponent fields of the block's rows. -/
abbrev fields : IVec S32x1 32 :=
  k0_pay28 (k0_pay24 (state2 c i arg1 harg1 arg2 harg2 arg3 harg3 arg4 harg4 arg5 harg5 X).1) (k0_pay25 (state2 c i arg1 harg1 arg2 harg2 arg3 harg3 arg4 harg4 arg5 harg5 X).1) (k0_pay26 (state2 c i arg1 harg1 arg2 harg2 arg3 harg3 arg4 harg4 arg5 harg5 X).1) (k0_pay27 (state2 c i arg1 harg1 arg2 harg2 arg3 harg3 arg4 harg4 arg5 harg5 X).1)

/-- The second result's stores are the third loop's, over the exponentials. -/
theorem list2_eq : (Body.kernelRun0_A (F := Ideal) c i arg1 harg1 arg2 harg2 arg3 harg3 arg4 harg4 arg5 harg5 X).2.1
    = pb_k0_t3 (F := Ideal) Variants.none c none i arg1 harg1 arg2 harg2 arg3 harg3 arg4 harg4 arg5 harg5
        (k0_pay23 (state2 c i arg1 harg1 arg2 harg2 arg3 harg3 arg4 harg4 arg5 harg5 X).1) (fields c i arg1 harg1 arg2 harg2 arg3 harg3 arg4 harg4 arg5 harg5 X) (harg5.unread (expG X)) 96 := by
  rw [← scratch_exp c i arg1 harg1 arg2 harg2 arg3 harg3 arg4 harg4 arg5 harg5 X]
  unfold Body.kernelRun0_A
  dsimp only
  sl_unfold_words
  rfl

/-- The second result holds the codes. -/
theorem out2_eq (r : Fin 32) (j : Fin 49152) :
    Body.out0_A_2 (F := Ideal) c i arg1 harg1 arg2 harg2 arg3 harg3 arg4 harg4 arg5 harg5 X (ix2 r j)
      = min (Ideal.ofBits .f32 0x43E00000#32) (max 0 (ex (row X r) j *
          (Ideal.div 1 (tot (row X r)) * Ideal.ofBits .f32 (IntOp.shli .vector (IntOp.subi 253#32 (field (mag (row X r)))) 23#32)))) := by
  unfold Body.out0_A_2
  rw [View.read_writes_eq_canon _ _ _ (Body.cover0_A_2 c i arg1 harg1 arg2 harg2 arg3 harg3 arg4 harg4 arg5 harg5 X)]
  refine (View.canon_apply_of_pieces (Val := Elt Ideal) (codeG (k0_pay23 (state2 c i arg1 harg1 arg2 harg2 arg3 harg3 arg4 harg4 arg5 harg5 X).1) (fields c i arg1 harg1 arg2 harg2 arg3 harg3 arg4 harg4 arg5 harg5 X) (expG X)) _ ?_ _
    (Body.cover0_A_2 c i arg1 harg1 arg2 harg2 arg3 harg3 arg4 harg4 arg5 harg5 X (ix2 r j))).trans ?_
  · rw [list2_eq]
    exact pieces3 c i arg1 harg1 arg2 harg2 arg3 harg3 arg4 harg4 arg5 harg5 _ _ _ 96 (le_of_eq rfl)
  · unfold codeG code
    simp only [ix2_0]
    unfold fields
    rw [pay23_eq X _ (sums_eq c i arg1 harg1 arg2 harg2 arg3 harg3 arg4 harg4 arg5 harg5 X) r 0, pay28_eq X _ (sums_eq c i arg1 harg1 arg2 harg2 arg3 harg3 arg4 harg4 arg5 harg5 X) r 0]
    rfl

end Cert.KernelIdeal.Block

end
-- ==== Proof.Arrays.lean ====
/- The kernel's run over the extended reals, read: what the three result arrays hold, row by row of the logits. -/
module

public import proofs.«01_k».proof.Proof.Block

@[expose] public section

set_option maxRecDepth 16384

noncomputable section

namespace Cert.KernelIdeal.Arrays

open Cert.KernelIdeal Cert.KernelIdeal.Gen Cert.KernelIdeal.Body Cert.KernelIdeal.Block Cert.RowMath
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- Row `n` of the logits, the 4 by 1024 rows counted in order. -/
def rowOf (A : S4x1024x49152.Idx → EReal) (n : Fin 4096) : Fin 49152 → EReal :=
  fun j => A (ix3 ⟨n.1 / 1024, by omega⟩ ⟨n.1 % 1024, by omega⟩ j)

/-- The logarithms of the sums. -/
def lseG (A : S4x1024x49152.Idx → EReal) : S128x1x32.Idx → EReal := fun y =>
  have h0 : (y 0 : ℕ) < 128 := (y 0).isLt
  have h2 : (y 2 : ℕ) < 32 := (y 2).isLt
  Ideal.log (tot (rowOf A ⟨32 * (y 0 : ℕ) + (y 2 : ℕ), by omega⟩))

/-- The codes. -/
def codesG (A : S4x1024x49152.Idx → EReal) : S4096x49152.Idx → EReal := fun y =>
  min (Ideal.ofBits .f32 0x43E00000#32) (max 0 (ex (rowOf A (y 0)) (y 1) *
    (Ideal.div 1 (tot (rowOf A (y 0))) *
      Ideal.ofBits .f32 (IntOp.shli .vector (IntOp.subi 253#32 (field (mag (rowOf A (y 0))))) 23#32))))

/-- The scales. -/
def scaleG (A : S4x1024x49152.Idx → EReal) : S128x1x32.Idx → EReal := fun y =>
  have h0 : (y 0 : ℕ) < 128 := (y 0).isLt
  have h2 : (y 2 : ℕ) < 32 := (y 2).isLt
  Ideal.ofBits .f32 (IntOp.shli .vector
    (IntOp.addi (field (mag (rowOf A ⟨32 * (y 0 : ℕ) + (y 2 : ℕ), by omega⟩))) 1#32) 23#32)

/-- Where each window's block lies at a point of the grid. -/
theorem idx_facts : ∀ t : Fin cfg0.N,
    (win0_0.index t 0 = t.val ∧ win0_0.index t 1 = 0) ∧
    (win0_1.index t 0 = t.val ∧ win0_1.index t 1 = 0 ∧ win0_1.index t 2 = 0) ∧
    (win0_2.index t 0 = t.val ∧ win0_2.index t 1 = 0) ∧
    (win0_3.index t 0 = t.val ∧ win0_3.index t 1 = 0 ∧ win0_3.index t 2 = 0) := by
  decide +kernel

/-- The logits with their rows in one list, at a row and a column. -/
theorem reshape_apply (A : S4x1024x49152.Idx → EReal) (y : S4096x49152.Idx) :
    shapeCast S4096x49152 A shapeCasts_S4x1024x49152_S4096x49152 y = rowOf A (y 0) (y 1) := by
  pointwise
  rfl

/-- The kernel's operand is the logits, the rows in one list. -/
theorem V_main_v0 (c : Dev nD) (y : S4096x49152.Idx) :
    V m c main_v0 y = rowOf (m ((c : Thread nD τ).loc main_arg0)) (y 0) (y 1) := by
  have : V m c main_v0 = shapeCast S4096x49152 (m ((c : Thread nD τ).loc main_arg0))
      shapeCasts_S4x1024x49152_S4096x49152 := by
    rfl
  rw [this]
  exact reshape_apply _ y

/-- The block of logits at a point of the grid. -/
theorem iblk_row (c : Dev nD) (t : Fin cfg0.N) (r : Fin 32) (h : 32 * t.val + r.val < 4096) :
    row (iblk m c 0 t) r = rowOf (m ((c : Thread nD τ).loc main_arg0)) ⟨32 * t.val + r.val, h⟩ := by
  have hi := (idx_facts t).1
  funext j
  unfold row iblk
  rw [View.read_apply]
  refine (V_main_v0 m c _).trans ?_
  have h0 : (((cfg0.win 0).blk t).view.emb (ix2 r j)) 0 = (⟨32 * t.val + r.val, h⟩ : Fin 4096) := by
    refine Fin.ext ?_
    show win0_0.index t 0 * 32 + 1 * r.val = 32 * t.val + r.val
    rw [hi.1]; omega
  have h1 : (((cfg0.win 0).blk t).view.emb (ix2 r j)) 1 = (j : Fin 49152) := by
    refine Fin.ext ?_
    show win0_0.index t 1 * 49152 + 1 * j.val = j.val
    rw [hi.2]; omega
  rw [h0, h1]

/-- Rows of the grid's blocks are rows of the array. -/
theorem row_lt (t : Fin cfg0.N) (r : Fin 32) : 32 * t.val + r.val < 4096 := by
  have hN : cfg0.N = 128 := N_0
  have := t.isLt
  omega

/-- The logarithms that point `t` writes back. -/
theorem flushed1 (c : Dev nD) (t : Fin cfg0.N) :
    (dats m 0 c).flushed 1 t
      = ((cfg0.win 1).blk t).view.read (Elt Ideal) (lseG (m ((c : Thread nD τ).loc main_arg0))) := by
  have hi := (idx_facts t).2.1
  show (cfg0.win 1).cut (grid0.coords t) ((dats m 0 c).after 1 t) = _
  rw [after0_1]
  refine funext fun (z : S1x1x32.Idx) => ?_
  rw [View.read_apply]
  refine Eq.trans (b := (outsAt0 m c t).1 (ix3 (z 0) (z 1) (z 2))) (congrArg (outsAt0 m c t).1 (eq_ix3 z)) ?_
  have hz0 : (z 0 : ℕ) < 1 := (z 0).isLt
  unfold outsAt0
  refine (out1_eq _ _ _ _ _ _ _ _ _ _ _ _ _ _ _ _).trans ?_
  rw [iblk_row m c t (z 2) (row_lt t (z 2))]
  refine Eq.trans ?_ (cast_eq _ _).symm
  unfold lseG
  refine congrArg (fun n => Ideal.log (tot (rowOf (m ((c : Thread nD τ).loc main_arg0)) n))) (Fin.ext ?_)
  show 32 * t.val + (z 2 : ℕ) = 32 * (win0_1.index t 0 * 1 + 1 * (z 0 : ℕ)) + (win0_1.index t 2 * 32 + 1 * (z 2 : ℕ))
  rw [hi.1, hi.2.2]; omega

/-- The scales that point `t` writes back. -/
theorem flushed3 (c : Dev nD) (t : Fin cfg0.N) :
    (dats m 0 c).flushed 3 t
      = ((cfg0.win 3).blk t).view.read (Elt Ideal) (scaleG (m ((c : Thread nD τ).loc main_arg0))) := by
  have hi := (idx_facts t).2.2.2
  show (cfg0.win 3).cut (grid0.coords t) ((dats m 0 c).after 3 t) = _
  rw [after0_3]
  refine funext fun (z : S1x1x32.Idx) => ?_
  rw [View.read_apply]
  refine Eq.trans (b := (outsAt0 m c t).2.2 (ix3 (z 0) (z 1) (z 2))) (congrArg (outsAt0 m c t).2.2 (eq_ix3 z)) ?_
  have hz0 : (z 0 : ℕ) < 1 := (z 0).isLt
  unfold outsAt0
  refine (out3_eq _ _ _ _ _ _ _ _ _ _ _ _ _ _ _ _).trans ?_
  rw [iblk_row m c t (z 2) (row_lt t (z 2))]
  show _ = scaleG (m ((c : Thread nD τ).loc main_arg0)) (((cfg0.win 3).blk t).view.emb z)
  unfold scaleG
  refine congrArg (fun n => Ideal.ofBits .f32 (IntOp.shli .vector
    (IntOp.addi (field (mag (rowOf (m ((c : Thread nD τ).loc main_arg0)) n))) 1#32) 23#32)) (Fin.ext ?_)
  show 32 * t.val + (z 2 : ℕ) = 32 * (win0_3.index t 0 * 1 + 1 * (z 0 : ℕ)) + (win0_3.index t 2 * 32 + 1 * (z 2 : ℕ))
  rw [hi.1, hi.2.2]; omega

/-- The codes that point `t` writes back. -/
theorem flushed2 (c : Dev nD) (t : Fin cfg0.N) :
    (dats m 0 c).flushed 2 t
      = ((cfg0.win 2).blk t).view.read (Elt Ideal) (codesG (m ((c : Thread nD τ).loc main_arg0))) := by
  have hi := (idx_facts t).2.2.1
  show (cfg0.win 2).cut (grid0.coords t) ((dats m 0 c).after 2 t) = _
  rw [after0_2]
  refine funext fun (z : S32x49152.Idx) => ?_
  rw [View.read_apply]
  refine Eq.trans (b := (outsAt0 m c t).2.1 (ix2 (z 0) (z 1))) (congrArg (outsAt0 m c t).2.1 (eq_ix2 z)) ?_
  unfold outsAt0
  refine (out2_eq _ _ _ _ _ _ _ _ _ _ _ _ _ _ _).trans ?_
  rw [iblk_row m c t (z 0) (row_lt t (z 0))]
  show _ = codesG (m ((c : Thread nD τ).loc main_arg0)) (((cfg0.win 2).blk t).view.emb z)
  have h0 : (((cfg0.win 2).blk t).view.emb z) 0 = (⟨32 * t.val + (z 0 : ℕ), row_lt t (z 0)⟩ : Fin 4096) := by
    refine Fin.ext ?_
    show win0_2.index t 0 * 32 + 1 * (z 0 : ℕ) = 32 * t.val + (z 0 : ℕ)
    rw [hi.1]; omega
  have h1 : (((cfg0.win 2).blk t).view.emb z) 1 = (z 1 : Fin 49152) := by
    refine Fin.ext ?_
    show win0_2.index t 1 * 49152 + 1 * (z 1 : ℕ) = (z 1 : ℕ)
    rw [hi.2]; omega
  unfold codesG
  rw [h0, h1]

/-- The blocks of the first and the third result tile their arrays; -/
theorem cover1 (i : S128x1x32.Idx) : ∃ t : Fin cfg0.N, (cfg0.win 1).flush t = true ∧ i ∈ ((cfg0.win 1).blk t).view.set := by
  have hN : cfg0.N = 128 := N_0
  have h0 : (i 0 : ℕ) < 128 := (i 0).isLt
  have h1 : (i 1 : ℕ) < 1 := (i 1).isLt
  have h2 : (i 2 : ℕ) < 32 := (i 2).isLt
  have ht : ∃ t : Fin cfg0.N, t.val = (i 0 : ℕ) := ⟨⟨(i 0 : ℕ), by omega⟩, rfl⟩
  obtain ⟨t, ht⟩ := ht
  refine ⟨t, flush0_1 t, ?_⟩
  have hi := (idx_facts t).2.1
  show i ∈ ((View.whole main_v1_0).slice (win0_1.rect t)).set
  rw [View.set_slice_whole, Rect.mem_set_unit]
  intro a
  match a with
  | ⟨0, _⟩ => show win0_1.index t 0 * 1 ≤ (i 0 : ℕ) ∧ (i 0 : ℕ) < win0_1.index t 0 * 1 + 1
              rw [hi.1]; omega
  | ⟨1, _⟩ => show win0_1.index t 1 * 1 ≤ (i 1 : ℕ) ∧ (i 1 : ℕ) < win0_1.index t 1 * 1 + 1
              rw [hi.2.1]; omega
  | ⟨2, _⟩ => show win0_1.index t 2 * 32 ≤ (i 2 : ℕ) ∧ (i 2 : ℕ) < win0_1.index t 2 * 32 + 32
              rw [hi.2.2]; omega

/-- the same of the third result; -/
theorem cover3 (i : S128x1x32.Idx) : ∃ t : Fin cfg0.N, (cfg0.win 3).flush t = true ∧ i ∈ ((cfg0.win 3).blk t).view.set := by
  have hN : cfg0.N = 128 := N_0
  have h0 : (i 0 : ℕ) < 128 := (i 0).isLt
  have h1 : (i 1 : ℕ) < 1 := (i 1).isLt
  have h2 : (i 2 : ℕ) < 32 := (i 2).isLt
  have ht : ∃ t : Fin cfg0.N, t.val = (i 0 : ℕ) := ⟨⟨(i 0 : ℕ), by omega⟩, rfl⟩
  obtain ⟨t, ht⟩ := ht
  refine ⟨t, flush0_3 t, ?_⟩
  have hi := (idx_facts t).2.2.2
  show i ∈ ((View.whole main_v1_2).slice (win0_3.rect t)).set
  rw [View.set_slice_whole, Rect.mem_set_unit]
  intro a
  match a with
  | ⟨0, _⟩ => show win0_3.index t 0 * 1 ≤ (i 0 : ℕ) ∧ (i 0 : ℕ) < win0_3.index t 0 * 1 + 1
              rw [hi.1]; omega
  | ⟨1, _⟩ => show win0_3.index t 1 * 1 ≤ (i 1 : ℕ) ∧ (i 1 : ℕ) < win0_3.index t 1 * 1 + 1
              rw [hi.2.1]; omega
  | ⟨2, _⟩ => show win0_3.index t 2 * 32 ≤ (i 2 : ℕ) ∧ (i 2 : ℕ) < win0_3.index t 2 * 32 + 32
              rw [hi.2.2]; omega

/-- and of the codes. -/
theorem cover2 (i : S4096x49152.Idx) : ∃ t : Fin cfg0.N, (cfg0.win 2).flush t = true ∧ i ∈ ((cfg0.win 2).blk t).view.set := by
  have hN : cfg0.N = 128 := N_0
  have h0 : (i 0 : ℕ) < 4096 := (i 0).isLt
  have h1 : (i 1 : ℕ) < 49152 := (i 1).isLt
  have ht : ∃ t : Fin cfg0.N, t.val = (i 0 : ℕ) / 32 := ⟨⟨(i 0 : ℕ) / 32, by omega⟩, rfl⟩
  obtain ⟨t, ht⟩ := ht
  refine ⟨t, flush0_2 t, ?_⟩
  have hi := (idx_facts t).2.2.1
  show i ∈ ((View.whole main_v1_1).slice (win0_2.rect t)).set
  rw [View.set_slice_whole, Rect.mem_set_unit]
  intro a
  match a with
  | ⟨0, _⟩ => show win0_2.index t 0 * 32 ≤ (i 0 : ℕ) ∧ (i 0 : ℕ) < win0_2.index t 0 * 32 + 32
              rw [hi.1]; omega
  | ⟨1, _⟩ => show win0_2.index t 1 * 49152 ≤ (i 1 : ℕ) ∧ (i 1 : ℕ) < win0_2.index t 1 * 49152 + 49152
              rw [hi.2]; omega

/-- The kernel's run over the extended reals: its three results by rows of the logits, the logits unchanged. -/
theorem run : θ_run defs (onTc (τ := τ) (main (F := Ideal))) ⟨m, fun _ => 0, ρ⟩ fun r => ∀ c : Dev nD,
      r.2.mem ((c : Thread nD τ).loc main_v1_0) = lseG (m ((c : Thread nD τ).loc main_arg0))
      ∧ r.2.mem ((c : Thread nD τ).loc main_v1_1) = codesG (m ((c : Thread nD τ).loc main_arg0))
      ∧ r.2.mem ((c : Thread nD τ).loc main_v1_2) = scaleG (m ((c : Thread nD τ).loc main_arg0))
      ∧ r.2.mem ((c : Thread nD τ).loc main_arg0) = m ((c : Thread nD τ).loc main_arg0) :=
  (θ_run defs _ _).mono (fun _ h c =>
    ⟨((h c).1 1).trans ((dats m 0 c).arrAt_eq_of_cover 1 _ (fun t _ => flushed1 m c t) cover1),
     ((h c).1 2).trans ((dats m 0 c).arrAt_eq_of_cover 2 _ (fun t _ => flushed2 m c t) cover2),
     ((h c).1 3).trans ((dats m 0 c).arrAt_eq_of_cover 3 _ (fun t _ => flushed3 m c t) cover3),
     ((h c).2 main_arg0 (Pipeline.mem_restRefs_of main_arg0 (by decide) (by decide))).trans (V_main_arg0 m c)⟩)
    (run_main m ρ)

end Cert.KernelIdeal.Arrays

end
-- ==== Proof.RefRun.lean ====
/- The reference's run over any floats: it has one grid point and every block is a whole array, so each result array ends
   holding the value the body stores, computed from the logits. -/
module

public import proofs.«01_k».proof.Proof.Gen.ReferenceIdeal.Frame
public import Idealize.ShloMosaic.Lib.Pipeline.Value

@[expose] public section

noncomputable section

namespace Cert.ReferenceIdeal.Whole

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 1's array is `(dats m 0 c).arrAt 1 N`. -/
theorem post1 (r : PUnit × MemSt nD τ sig (Elt F)) (h : Pipeline.FramePost cfgs (dats m) 0 (V m) r) (c : Dev nD) :
    r.2.mem ((c : Thread nD τ).loc main_v0_0) = (dats m 0 c).arrAt 1 cfg0.N :=
  (h c).1 1

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_1) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_2) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x1024x49152.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 1024 + 1 * (j 1).val = (j 1).val; omega
  | ⟨2, _⟩ => show win0_0.index t (2 : Fin 3) * 49152 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S128x1x32.Idx) : ((cfg0.win 1).blk t).view.emb j = j := by
  obtain ⟨e0, e1, e2⟩ := idx_zero1 t
  funext a; apply Fin.ext
  match a with
  | ⟨0, _⟩ => show win0_1.index t (0 : Fin 3) * 128 + 1 * (j 0).val = (j 0).val; omega
  | ⟨1, _⟩ => show win0_1.index t (1 : Fin 3) * 1 + 1 * (j 1).val = (j 1).val; omega
  | ⟨2, _⟩ => show win0_1.index t (2 : Fin 3) * 32 + 1 * (j 2).val = (j 2).val; omega

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S4096x49152.Idx) : ((cfg0.win 2).blk t).view.emb j = j := by
  obtain ⟨e0, e1⟩ := idx_zero2 t
  funext a; apply Fin.ext
  match a with
  | ⟨0, _⟩ => show win0_2.index t (0 : Fin 2) * 4096 + 1 * (j 0).val = (j 0).val; omega
  | ⟨1, _⟩ => show win0_2.index t (1 : Fin 2) * 49152 + 1 * (j 1).val = (j 1).val; omega

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S128x1x32.Idx) : ((cfg0.win 3).blk t).view.emb j = j := by
  obtain ⟨e0, e1, e2⟩ := idx_zero3 t
  funext a; apply Fin.ext
  match a with
  | ⟨0, _⟩ => show win0_3.index t (0 : Fin 3) * 128 + 1 * (j 0).val = (j 0).val; omega
  | ⟨1, _⟩ => show win0_3.index t (1 : Fin 3) * 1 + 1 * (j 1).val = (j 1).val; omega
  | ⟨2, _⟩ => show win0_3.index t (2 : Fin 3) * 32 + 1 * (j 2).val = (j 2).val; omega

/-! ### Output window 1: the array after the run -/

/-- What the window's array ends holding: `out0_1` applied to the argument arrays in place of the input blocks. -/
abbrev G1 (a0 : Vec F S4x1024x49152 .bf16) : Vec F S128x1x32 .f32 :=
  k0_pay6 a0

/-- A load of the whole of a block reads the block, and the one store through the whole rectangle leaves its payload. -/
theorem out1_eq (a0 : Vec F S4x1024x49152 .bf16) : out0_1 (F := F) a0 = G1 a0 := by
  unfold out0_1
  rw [View.canon_unit_zero hz1, View.ld_unit_zero (S := S4x1024x49152) hz0 _ a0]

/-- Cutting the point's block out of `X` and reading `X` through the block's view give the same. -/
theorem cut1_eq (t : Fin cfg0.N) (X : Vec F S128x1x32 .f32) :
    (cfg0.win 1).cut (grid0.coords t) X = ((cfg0.win 1).blk t).view.read (Elt F) X := by
  funext j
  show X j = X (((cfg0.win 1).blk t).view.emb j)
  rw [emb1]

/-- What the point writes back is its block of `G1` of the argument arrays as the region finds them. -/
theorem flushed1_eq (c : Dev nD) (t : Fin cfg0.N) :
    (dats m 0 c).flushed 1 t = ((cfg0.win 1).blk t).view.read (Elt F) (G1 (V m c main_arg0)) := by
  show (cfg0.win 1).cut (grid0.coords t) ((dats m 0 c).after 1 t) = _
  rw [after0_1, out1_eq, iblk0_eq]
  exact cut1_eq t _

/-- Every index of the array is in the point's block. -/
theorem covered1 (i : S128x1x32.Idx) :
    ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩

/-- The array after the run: `G1` of the argument arrays as launched. -/
theorem final1 (c : Dev nD) : (dats m 0 c).arrAt 1 cfg0.N = G1 (m ((c : Thread nD τ).loc main_arg0)) :=
  ((dats m 0 c).arrAt_eq_of_cover 1 (G1 (V m c main_arg0)) (fun t _ => flushed1_eq m c t) covered1).trans (by rw [V_main_arg0])

/-! ### Output window 2: the array after the run -/

/-- What the window's array ends holding: `out0_2` applied to the argument arrays in place of the input blocks. -/
abbrev G2 (a0 : Vec F S4x1024x49152 .bf16) : Vec F S4096x49152 .fp8e4m3 :=
  k0_pay7 a0

/-- A load of the whole of a block reads the block, and the one store through the whole rectangle leaves its payload. -/
theorem out2_eq (a0 : Vec F S4x1024x49152 .bf16) : out0_2 (F := F) a0 = G2 a0 := by
  unfold out0_2
  rw [View.canon_unit_zero hz2, View.ld_unit_zero (S := S4x1024x49152) hz0 _ a0]

/-- Cutting the point's block out of `X` and reading `X` through the block's view give the same. -/
theorem cut2_eq (t : Fin cfg0.N) (X : Vec F S4096x49152 .fp8e4m3) :
    (cfg0.win 2).cut (grid0.coords t) X = ((cfg0.win 2).blk t).view.read (Elt F) X := by
  funext j
  show X j = X (((cfg0.win 2).blk t).view.emb j)
  rw [emb2]

/-- What the point writes back is its block of `G2` of the argument arrays as the region finds them. -/
theorem flushed2_eq (c : Dev nD) (t : Fin cfg0.N) :
    (dats m 0 c).flushed 2 t = ((cfg0.win 2).blk t).view.read (Elt F) (G2 (V m c main_arg0)) := by
  show (cfg0.win 2).cut (grid0.coords t) ((dats m 0 c).after 2 t) = _
  rw [after0_2, out2_eq, iblk0_eq]
  exact cut2_eq t _

/-- Every index of the array is in the point's block. -/
theorem covered2 (i : S4096x49152.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- The array after the run: `G2` of the argument arrays as launched. -/
theorem final2 (c : Dev nD) : (dats m 0 c).arrAt 2 cfg0.N = G2 (m ((c : Thread nD τ).loc main_arg0)) :=
  ((dats m 0 c).arrAt_eq_of_cover 2 (G2 (V m c main_arg0)) (fun t _ => flushed2_eq m c t) covered2).trans (by rw [V_main_arg0])

/-! ### Output window 3: the array after the run -/

/-- What the window's array ends holding: `out0_3` applied to the argument arrays in place of the input blocks. -/
abbrev G3 (a0 : Vec F S4x1024x49152 .bf16) : Vec F S128x1x32 .f32 :=
  k0_pay1 (k0_pay5 a0)

/-- A load of the whole of a block reads the block, and the one store through the whole rectangle leaves its payload. -/
theorem out3_eq (a0 : Vec F S4x1024x49152 .bf16) : out0_3 (F := F) a0 = G3 a0 := by
  unfold out0_3
  rw [View.canon_unit_zero hz3, View.ld_unit_zero (S := S4x1024x49152) hz0 _ a0]

/-- Cutting the point's block out of `X` and reading `X` through the block's view give the same. -/
theorem cut3_eq (t : Fin cfg0.N) (X : Vec F S128x1x32 .f32) :
    (cfg0.win 3).cut (grid0.coords t) X = ((cfg0.win 3).blk t).view.read (Elt F) X := by
  funext j
  show X j = X (((cfg0.win 3).blk t).view.emb j)
  rw [emb3]

/-- What the point writes back is its block of `G3` of the argument arrays as the region finds them. -/
theorem flushed3_eq (c : Dev nD) (t : Fin cfg0.N) :
    (dats m 0 c).flushed 3 t = ((cfg0.win 3).blk t).view.read (Elt F) (G3 (V m c main_arg0)) := by
  show (cfg0.win 3).cut (grid0.coords t) ((dats m 0 c).after 3 t) = _
  rw [after0_3, out3_eq, iblk0_eq]
  exact cut3_eq t _

/-- Every index of the array is in the point's block. -/
theorem covered3 (i : S128x1x32.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- The array after the run: `G3` of the argument arrays as launched. -/
theorem final3 (c : Dev nD) : (dats m 0 c).arrAt 3 cfg0.N = G3 (m ((c : Thread nD τ).loc main_arg0)) :=
  ((dats m 0 c).arrAt_eq_of_cover 3 (G3 (V m c main_arg0)) (fun t _ => flushed3_eq m c t) covered3).trans (by rw [V_main_arg0])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G1 (m ((c : Thread nD τ).loc main_arg0))
      ∧ r.2.mem ((c : Thread nD τ).loc main_v0_1) = G2 (m ((c : Thread nD τ).loc main_arg0))
      ∧ r.2.mem ((c : Thread nD τ).loc main_v0_2) = G3 (m ((c : Thread nD τ).loc main_arg0))
      ∧ r.2.mem ((c : Thread nD τ).loc main_arg0) = m ((c : Thread nD τ).loc main_arg0) :=
  (θ_run defs _ _).mono (fun r h c => ⟨(post1 m r h c).trans (final1 m c),
      (post2 m r h c).trans (final2 m c),
      (post3 m r h c).trans (final3 m c),
      kept_main_arg0 m r h c⟩)
    (run_main m ρ)

end Cert.ReferenceIdeal.Whole

end
-- ==== Proof.Match.lean ====
/- The reference's results over the extended reals, row by row, and their equality with the kernel's. -/
module

public import proofs.«01_k».proof.Proof.Arrays
public import proofs.«01_k».proof.Proof.RefRun
public import proofs.«01_k».proof.Proof.Gen.Pre_row_max_finite

@[expose] public section

set_option maxRecDepth 16384

noncomputable section

namespace Cert.Match

open Cert.RowMath Cert.KernelIdeal.Arrays
open Cert.ReferenceIdeal Cert.ReferenceIdeal.Gen Cert.ReferenceIdeal.Whole
open Idealize.ShloMosaic Idealize.ShloMosaic.TcCoe Idealize.ShloMosaic.Tactic

/-- The row of the logits at a batch and a position. -/
def rowAt (A : S4x1024x49152.Idx → EReal) (b : Fin 4) (s : Fin 1024) : Fin 49152 → EReal := fun j => A (ix3 b s j)

/-- Every row has a finite greatest logit. -/
def Finite (A : S4x1024x49152.Idx → EReal) : Prop := ∀ b s, ∃ M : ℝ, rmax (rowAt A b s) = M

/-- The precondition's maximum of a row. -/
theorem reduce_eq (A : FVec Ideal S4x1024x49152 .bf16) (i : S4x1024.Idx) (h1 : S4x1024x49152.ReducesTo [2] S4x1024)
    (h2 : 0 < Cert.Pre_row_max_finite.S_.numel) :
    Host.reduce FloatOps.maximumf A (constant Cert.Pre_row_max_finite.S_ .bf16 0xFF80#16) h1 h2 i
      = Finset.univ.fold max (Ideal.ofBits .bf16 0xFF80#16) (fun j : Fin 49152 => A (ix3 (i 0) (i 1) j)) := by
  pointwise

/-- An extended real whose absolute value is below the bfloat16 infinity is a real. -/
theorem real_of_lt (R : FVec Ideal S4x1024 .bf16) (i : S4x1024.Idx)
    (hb : Cert.Pre_row_max_finite.S_.BroadcastsInDim S4x1024 (![] : Fin 0 → Fin S4x1024.rank))
    (h : cmpf .olt (Host.absf R)
      (broadcastInDim S4x1024 ![] hb (constant Cert.Pre_row_max_finite.S_ .bf16 0x7F80#16)) i = 1#1) :
    ∃ M : ℝ, R i = (M : EReal) := by
  have key : Ideal.cmp .olt (max (R i) (-(R i))) (Ideal.ofBits .bf16 0x7F80#16) = 1#1 := by
    refine Eq.trans ?_ h
    pointwise
    rfl
  have htop : Ideal.ofBits .bf16 0x7F80#16 = ⊤ := by simp [Ideal.ofBits, Ideal.ieee]
  rw [htop] at key
  have hlt : max (R i) (-(R i)) < ⊤ := by
    by_contra hn
    simp only [Ideal.cmp, decide_eq_false hn] at key
    exact absurd key (by decide)
  rw [max_lt_iff] at hlt
  generalize R i = a at hlt
  induction a using EReal.rec with
  | bot => simp at hlt
  | top => simp at hlt
  | coe M => exact ⟨M, rfl⟩

/-- The precondition says that every row has a finite greatest logit. -/
theorem finite_of_pre (A : S4x1024x49152.Idx → EReal)
    (h : Cert.Pre_row_max_finite.fn (F := Ideal) A = fun _ => 1#1) : Finite A := by
  intro b s
  obtain ⟨M, hM⟩ := real_of_lt _ (ix2 b s) _ (congrFun h (ix2 b s))
  refine ⟨M, Eq.trans ?_ hM⟩
  refine Eq.trans ?_ (reduce_eq A (ix2 b s) _ _).symm
  have hbot : Ideal.ofBits .bf16 0xFF80#16 = ⊥ := by simp [Ideal.ofBits, Ideal.ieee]
  rw [hbot]
  exact (fold_max_eq_sup _).symm

variable (A : S4x1024x49152.Idx → EReal) (hA : Finite A)

/-- The row that the kernel's list of rows has at a place. -/
theorem rowOf_eq (n : Fin 4096) : rowOf A n = rowAt A ⟨n.1 / 1024, by omega⟩ ⟨n.1 % 1024, by omega⟩ := rfl

/-- The kernel's place of a result row, split in batch and position, is the reference's. -/
theorem rowOf_block (y : S128x1x32.Idx) (h : 32 * (y 0 : ℕ) + (y 2 : ℕ) < 4096) (h0 : (y 0 : ℕ) / 32 < 4)
    (h1 : (y 0 : ℕ) % 32 * 32 + (y 2 : ℕ) < 1024) :
    rowOf A ⟨32 * (y 0 : ℕ) + (y 2 : ℕ), h⟩ = rowAt A ⟨(y 0 : ℕ) / 32, h0⟩ ⟨(y 0 : ℕ) % 32 * 32 + (y 2 : ℕ), h1⟩ := by
  have h2 : (y 2 : ℕ) < 32 := (y 2).isLt
  rw [rowOf_eq]
  exact congrArg₂ (rowAt A) (Fin.ext (by show (32 * (y 0 : ℕ) + (y 2 : ℕ)) / 1024 = (y 0 : ℕ) / 32; omega))
    (Fin.ext (by show (32 * (y 0 : ℕ) + (y 2 : ℕ)) % 1024 = (y 0 : ℕ) % 32 * 32 + (y 2 : ℕ); omega))

section
include hA

/-- The reference's exponentials. -/
theorem pay2_eq (b : Fin 4) (s : Fin 1024) (j : Fin 49152) : k0_pay2 (F := Ideal) A (ix3 b s j) = ex (rowAt A b s) j := by
  refine Eq.trans ?_ (ref_ex (rowAt A b s) (hA _ _) j)
  unfold k0_pay2 rowAt
  pointwise

/-- The reference's sums. -/
theorem pay3_eq (b : Fin 4) (s : Fin 1024) (u : Fin 1) : k0_pay3 (F := Ideal) A (ix3 b s u) = tot (rowAt A b s) := by
  have h : k0_pay3 (F := Ideal) A (ix3 b s u) = ∑ x : Fin 49152, k0_pay2 (F := Ideal) A (ix3 b s x) := by
    unfold k0_pay3
    pointwise
  rw [h]
  exact Finset.sum_congr rfl fun x _ => pay2_eq A hA b s x

/-- The reference's exponents. -/
theorem pay4_eq (b : Fin 4) (s : Fin 1024) (u : Fin 1) :
    k0_pay4 (F := Ideal) A (ix3 b s u) = sexp (mag (rowAt A b s)) := by
  have h : k0_pay4 (F := Ideal) A (ix3 b s u) = sexp (Ideal.div 1 (k0_pay3 (F := Ideal) A (ix3 b s u)) * Ideal.ofBits .f32 0x3B124925#32) := by
    unfold k0_pay4 sexp
    pointwise
  rw [h, pay3_eq A hA]
  rfl

/-- The first results agree. -/
theorem lse_eq : G1 (F := Ideal) A = lseG A := by
  funext y
  have h0 : (y 0 : ℕ) < 128 := (y 0).isLt
  have h2 : (y 2 : ℕ) < 32 := (y 2).isLt
  have h : k0_pay6 (F := Ideal) A y = Ideal.log (k0_pay3 (F := Ideal) A
      (ix3 ⟨(y 0 : ℕ) / 32, by omega⟩ ⟨(y 0 : ℕ) % 32 * 32 + (y 2 : ℕ), by omega⟩ 0)) := by
    unfold k0_pay6
    pointwise
  refine h.trans ?_
  rw [pay3_eq A hA]
  have e := rowOf_block A y (by omega) (by omega) (by omega)
  unfold lseG
  dsimp only
  rw [e]

/-- The third results agree. -/
theorem scales_eq : G3 (F := Ideal) A = scaleG A := by
  funext y
  have h0 : (y 0 : ℕ) < 128 := (y 0).isLt
  have h2 : (y 2 : ℕ) < 32 := (y 2).isLt
  have h : k0_pay1 (F := Ideal) (k0_pay5 (F := Ideal) A) y = Ideal.exp2 (k0_pay4 (F := Ideal) A
      (ix3 ⟨(y 0 : ℕ) / 32, by omega⟩ ⟨(y 0 : ℕ) % 32 * 32 + (y 2 : ℕ), by omega⟩ 0)) := by
    unfold k0_pay1 k0_pay5
    pointwise
    rfl
  refine h.trans ?_
  rw [pay4_eq A hA]
  have e := rowOf_block A y (by omega) (by omega) (by omega)
  unfold scaleG
  dsimp only
  rw [e]
  exact (scale_eq _ (hA _ _) (by norm_num)).symm

/-- The codes agree. -/
theorem codes_eq : G2 (F := Ideal) A = codesG A := by
  funext y
  have h0 : (y 0 : ℕ) < 4096 := (y 0).isLt
  have h : k0_pay7 (F := Ideal) A y = min (Ideal.ofBits .f32 0x43E00000#32) (max 0 (
      Ideal.div (k0_pay2 (F := Ideal) A (ix3 ⟨(y 0 : ℕ) / 1024, by omega⟩ ⟨(y 0 : ℕ) % 1024, by omega⟩ (y 1)))
        (k0_pay3 (F := Ideal) A (ix3 ⟨(y 0 : ℕ) / 1024, by omega⟩ ⟨(y 0 : ℕ) % 1024, by omega⟩ 0))
      * Ideal.exp2 (0 - k0_pay4 (F := Ideal) A (ix3 ⟨(y 0 : ℕ) / 1024, by omega⟩ ⟨(y 0 : ℕ) % 1024, by omega⟩ 0)))) := by
    unfold k0_pay7
    pointwise
    rfl
  refine h.trans ?_
  have e2 := pay2_eq A hA ⟨(y 0 : ℕ) / 1024, by omega⟩ ⟨(y 0 : ℕ) % 1024, by omega⟩ (y 1)
  rw [e2, pay3_eq A hA, pay4_eq A hA]
  refine congrArg (fun z => min (Ideal.ofBits .f32 0x43E00000#32) (max 0 z)) ?_
  exact (code_eq _ (hA _ _) (by norm_num) _).symm

end

end Cert.Match

end
-- ==== Proof.lean ====
/- The proof of the claims: the frames of the kernel, its idealisation and the reference, that idealising the kernel
   preserved it, and that over the extended reals the kernel's three results are the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_row_max_finite
public import proofs.«01_k».proof.Proof.KernelFrame
public import proofs.«01_k».proof.Proof.IdealFrame
public import proofs.«01_k».proof.Proof.RowMath
public import proofs.«01_k».proof.Proof.Trips
public import proofs.«01_k».proof.Proof.Block
public import proofs.«01_k».proof.Proof.Arrays
public import proofs.«01_k».proof.Proof.RefRun
public import proofs.«01_k».proof.Proof.Match
public import Idealize.ShloMosaic.Adequacy
public import Idealize.ShloMosaic.Init

@[expose] public section

noncomputable section

namespace Cert.Proof

open Idealize.ShloMosaic Idealize.SL.Sem Cert.Kernel

/-- Idealising the kernel replaced one literal by the named number it stands for: the two have the same float. -/
theorem preserves : Cert.preserves_Kernel_KernelIdeal :=
  IdealRules.named_const.statement Cert.KernelIdeal.κ "exp2_scale" .f32 0x3FE6D4CA#32
    (((((Real.log 2) * (13421773 / 16777216))⁻¹ : ℝ) : EReal)) rfl

/-- Over the extended reals, where every row has a finite greatest logit, the kernel and the reference end with the same
    three results. -/
theorem algebraic : Cert.algebraic_KernelIdeal_ReferenceIdeal_pre_row_max_finite := by
  intro m g m' g' hpre hargs
  have hA := fun c => Cert.Match.finite_of_pre _ (hpre c)
  refine ⟨fun c => Cert.KernelIdeal.Arrays.lseG (m ((c.tc : Thread Cert.KernelIdeal.nD Cert.KernelIdeal.τ).loc Cert.KernelIdeal.main_arg0)),
    fun c => Cert.KernelIdeal.Arrays.codesG (m ((c.tc : Thread Cert.KernelIdeal.nD Cert.KernelIdeal.τ).loc Cert.KernelIdeal.main_arg0)),
    fun c => Cert.KernelIdeal.Arrays.scaleG (m ((c.tc : Thread Cert.KernelIdeal.nD Cert.KernelIdeal.τ).loc Cert.KernelIdeal.main_arg0)),
    Cert.KernelIdeal.Arrays.run m g, ?_⟩
  refine (θ_run Cert.ReferenceIdeal.defs _ _).mono (fun r h c => ?_) (Cert.ReferenceIdeal.Whole.run (F := Ideal) m' g')
  obtain ⟨h1, h2, h3, h4⟩ := h c
  rw [hargs c] at h1 h2 h3
  exact ⟨h1.trans (Cert.Match.lse_eq _ (hA c)), h2.trans (Cert.Match.codes_eq _ (hA c)),
    h3.trans (Cert.Match.scales_eq _ (hA c)), h4⟩

/-- The frames of the three programs, the preservation, and the equality of the results. -/
theorem claim : Cert.Claim := ⟨Cert.Kernel.Gen.facts, Cert.KernelIdeal.Gen.facts, Cert.ReferenceIdeal.Gen.facts,
  Cert.Pre_row_max_finite.Gen.facts,
  fun m ρ _ => Cert.Kernel.Body.frame m ρ, fun m ρ _ => Cert.KernelIdeal.Body.frame m ρ,
  fun m ρ _ => Cert.KernelIdeal.Body.frame m ρ,
  fun m ρ _ => Cert.ReferenceIdeal.Gen.frame m ρ, fun m ρ _ => Cert.ReferenceIdeal.Gen.frame m ρ, preserves, algebraic⟩

end Cert.Proof

end
